-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_positions [hPre_finite_positions : Cert.Pre_finite_positions.Facts] (m : (ℓ : Loc Cert.KernelIdeal.nD Cert.KernelIdeal.τ Cert.KernelIdeal.sig) → Buf (Elt Ideal) ℓ) : Prop :=
  ∀ c : Dev Cert.KernelIdeal.nD,
    (Cert.Pre_finite_positions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_positions [hPre_finite_positions : Cert.Pre_finite_positions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_positions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_positions [hKernelIdeal : Cert.KernelIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_positions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_positions [hReferenceIdeal : Cert.ReferenceIdeal.Facts] [hPre_finite_positions : Cert.Pre_finite_positions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_positions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_positions [hKernelIdeal : Cert.KernelIdeal.Facts] [hReferenceIdeal : Cert.ReferenceIdeal.Facts] [hPre_finite_positions : Cert.Pre_finite_positions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_positions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_positions : Cert.Pre_finite_positions.Facts),
    quiescent_Kernel (hKernel := hKernel)
    ∧ quiescent_KernelIdeal (hKernelIdeal := hKernelIdeal)
    ∧ quiescent_KernelIdeal_pre_finite_positions (hKernelIdeal := hKernelIdeal) (hPre_finite_positions := hPre_finite_positions)
    ∧ quiescent_ReferenceIdeal (hReferenceIdeal := hReferenceIdeal)
    ∧ quiescent_ReferenceIdeal_pre_finite_positions (hReferenceIdeal := hReferenceIdeal) (hPre_finite_positions := hPre_finite_positions)
    ∧ preserves_Kernel_KernelIdeal
    ∧ algebraic_KernelIdeal_ReferenceIdeal_pre_finite_positions (hKernelIdeal := hKernelIdeal) (hReferenceIdeal := hReferenceIdeal) (hPre_finite_positions := hPre_finite_positions)
-- ==== Pre_finite_positions.lean ====
abbrev S4x1024x256 : Shape := ⟨3, ![4, 1024, 256]⟩
abbrev S4x1024x3 : Shape := ⟨3, ![4, 1024, 3]⟩
abbrev S256x256 : Shape := ⟨2, ![256, 256]⟩
abbrev S256 : Shape := ⟨1, ![256]⟩
abbrev S512x256 : Shape := ⟨2, ![512, 256]⟩
abbrev S256x3 : Shape := ⟨2, ![256, 3]⟩
abbrev S_ : Shape := ⟨0, ![]⟩

class Facts : Prop where
  bcast_S_S4x1024x3 : S_.BroadcastsInDim S4x1024x3 (![] : Fin 0 → Fin S4x1024x3.rank)

variable [Facts]

def fn {F : FTy → Type} [FloatOps F] (main_arg0 : FVec F S4x1024x256 .f32) (main_arg1 : FVec F S4x1024x3 .f32) (main_arg2 : FVec F S256x256 .f32) (main_arg3 : FVec F S256 .f32) (main_arg4 : FVec F S512x256 .f32) (main_arg5 : FVec F S256 .f32) (main_arg6 : FVec F S256 .f32) (main_arg7 : FVec F S256 .f32) (main_arg8 : FVec F S256x3 .f32) (main_arg9 : FVec F S512x256 .f32) (main_arg10 : FVec F S256 .f32) : IVec S4x1024x3 1 :=
  let main_v0 : FVec F S4x1024x3 .f32 := Host.absf main_arg1
  let main_cst : FVec F S_ .f32 := constant S_ .f32 0x7F800000#32
  let main_v1 : FVec F S4x1024x3 .f32 := broadcastInDim S4x1024x3 ![] bcast_S_S4x1024x3 main_cst
  let main_v2 : IVec S4x1024x3 1 := cmpf .olt main_v0 main_v1
  main_v2
-- ==== Kernel.lean ====
abbrev S4x1024x256 : Shape := ⟨3, ![4, 1024, 256]⟩
abbrev S4x1024x3 : Shape := ⟨3, ![4, 1024, 3]⟩
abbrev S256x256 : Shape := ⟨2, ![256, 256]⟩
abbrev S256 : Shape := ⟨1, ![256]⟩
abbrev S512x256 : Shape := ⟨2, ![512, 256]⟩
abbrev S256x3 : Shape := ⟨2, ![256, 3]⟩
abbrev S_ : Shape := ⟨0, ![]⟩
abbrev S256x8 : Shape := ⟨2, ![256, 8]⟩
abbrev S4x1024x8 : Shape := ⟨3, ![4, 1024, 8]⟩
abbrev S4x8x1024 : Shape := ⟨3, ![4, 8, 1024]⟩
abbrev S4x1024 : Shape := ⟨2, ![4, 1024]⟩
abbrev S4x1024x1 : Shape := ⟨3, ![4, 1024, 1]⟩
abbrev S4x1x1024 : Shape := ⟨3, ![4, 1, 1024]⟩
abbrev S1x256 : Shape := ⟨2, ![1, 256]⟩
abbrev S1x1024x256 : Shape := ⟨3, ![1, 1024, 256]⟩
abbrev S1024x256 : Shape := ⟨2, ![1024, 256]⟩
abbrev S4x8x1280x256 : Shape := ⟨4, ![4, 8, 1280, 256]⟩
abbrev S4x8x1280x8 : Shape := ⟨4, ![4, 8, 1280, 8]⟩
abbrev S4x1024x10 : Shape := ⟨3, ![4, 1024, 10]⟩
abbrev S1x128x256 : Shape := ⟨3, ![1, 128, 256]⟩
abbrev S1x128x8 : Shape := ⟨3, ![1, 128, 8]⟩
abbrev S1x1024x8 : Shape := ⟨3, ![1, 1024, 8]⟩
abbrev S1x8x1024 : Shape := ⟨3, ![1, 8, 1024]⟩
abbrev S1x128x1 : Shape := ⟨3, ![1, 128, 1]⟩
abbrev S1x1x1024 : Shape := ⟨3, ![1, 1, 1024]⟩
abbrev S1x1x1280x256 : Shape := ⟨4, ![1, 1, 1280, 256]⟩
abbrev S1x1x1280x8 : Shape := ⟨4, ![1, 1, 1280, 8]⟩
abbrev S1x128x10 : Shape := ⟨3, ![1, 128, 10]⟩
abbrev S128x256 : Shape := ⟨2, ![128, 256]⟩
abbrev S128x8 : Shape := ⟨2, ![128, 8]⟩
abbrev S1024x8 : Shape := ⟨2, ![1024, 8]⟩
abbrev S8x1024 : Shape := ⟨2, ![8, 1024]⟩
abbrev S128x1 : Shape := ⟨2, ![128, 1]⟩
abbrev S1x1024 : Shape := ⟨2, ![1, 1024]⟩
abbrev S128x1024 : Shape := ⟨2, ![128, 1024]⟩
abbrev S128 : Shape := ⟨1, ![128]⟩
abbrev S1280x1024 : Shape := ⟨2, ![1280, 1024]⟩
abbrev S128x10 : Shape := ⟨2, ![128, 10]⟩
abbrev S1280x8 : Shape := ⟨2, ![1280, 8]⟩
abbrev S1280x256 : Shape := ⟨2, ![1280, 256]⟩
abbrev S10x128x256 : Shape := ⟨3, ![10, 128, 256]⟩
abbrev S1280x512 : Shape := ⟨2, ![1280, 512]⟩
abbrev S4 : Shape := ⟨1, ![4]⟩
abbrev S4x1x1 : Shape := ⟨3, ![4, 1, 1]⟩
abbrev S4x1024x10x1 : Shape := ⟨4, ![4, 1024, 10, 1]⟩
abbrev S4x1024x10x2 : Shape := ⟨4, ![4, 1024, 10, 2]⟩
abbrev S4x1024x10x256 : Shape := ⟨4, ![4, 1024, 10, 256]⟩
abbrev S4x1024x1x256 : Shape := ⟨4, ![4, 1024, 1, 256]⟩
abbrev S4x1024x10x512 : Shape := ⟨4, ![4, 1024, 10, 512]⟩
abbrev S1x1x1x256 : Shape := ⟨4, ![1, 1, 1, 256]⟩
abbrev S4x1024x10x3 : Shape := ⟨4, ![4, 1024, 10, 3]⟩
abbrev S4x1024x1x3 : Shape := ⟨4, ![4, 1024, 1, 3]⟩
abbrev S4x10240x3 : Shape := ⟨3, ![4, 10240, 3]⟩
abbrev S4x3x1024 : Shape := ⟨3, ![4, 3, 1024]⟩
abbrev S4x10240x1024 : Shape := ⟨3, ![4, 10240, 1024]⟩
abbrev S4x10240 : Shape := ⟨2, ![4, 10240]⟩
abbrev S4x10240x1 : Shape := ⟨3, ![4, 10240, 1]⟩
abbrev S1x1280x1024 : Shape := ⟨3, ![1, 1280, 1024]⟩
abbrev S1280x1 : Shape := ⟨2, ![1280, 1]⟩
abbrev S1280 : Shape := ⟨1, ![1280]⟩
abbrev S128x1x256 : Shape := ⟨3, ![128, 1, 256]⟩
abbrev S128x10x256 : Shape := ⟨3, ![128, 10, 256]⟩

abbrev nBuf : Space → Nat
  | .hbm => 163
  | .vmem => 38
  | .smem => 0
  | _ => 0

abbrev hbmTy0_0 (i : Nat) : BufTy := match i % 128 with
  | 0 => ⟨S4x1024x256, .f32⟩
  | 1 => ⟨S4x1024x3, .f32⟩
  | 2 => ⟨S256x256, .f32⟩
  | 3 => ⟨S256, .f32⟩
  | 4 => ⟨S512x256, .f32⟩
  | 5 => ⟨S256, .f32⟩
  | 6 => ⟨S256, .f32⟩
  | 7 => ⟨S256, .f32⟩
  | 8 => ⟨S256x3, .f32⟩
  | 9 => ⟨S512x256, .f32⟩
  | 10 => ⟨S256, .f32⟩
  | 11 => ⟨S_, .i32⟩
  | 12 => ⟨S_, .f32⟩
  | 13 => ⟨S256x8, .f32⟩
  | 14 => ⟨S_, .i32⟩
  | 15 => ⟨S_, .f32⟩
  | 16 => ⟨S4x1024x8, .f32⟩
  | 17 => ⟨S4x8x1024, .f32⟩
  | 18 => ⟨S4x1024x3, .f32⟩
  | 19 => ⟨S_, .f32⟩
  | 20 => ⟨S4x1024, .f32⟩
  | 21 => ⟨S4x1024x1, .f32⟩
  | 22 => ⟨S4x1x1024, .f32⟩
  | 23 => ⟨S1x256, .f32⟩
  | 24 => ⟨S4x1024x256, .f32⟩
  | 25 => ⟨S1x256, .f32⟩
  | 26 => ⟨S4x8x1280x256, .f32⟩
  | 27 => ⟨S4x8x1280x8, .f32⟩
  | 28 => ⟨S4x1024x10, .i32⟩
  | 29 => ⟨S4, .i32⟩
  | 30 => ⟨S4x1x1, .i32⟩
  | 31 => ⟨S_, .i32⟩
  | 32 => ⟨S4x1x1, .i32⟩
  | 33 => ⟨S4x1x1, .i1⟩
  | 34 => ⟨S_, .i32⟩
  | 35 => ⟨S4x1x1, .i32⟩
  | 36 => ⟨S4x1x1, .i32⟩
  | 37 => ⟨S4x1x1, .i32⟩
  | 38 => ⟨S_, .i32⟩
  | 39 => ⟨S4x1024x10, .i32⟩
  | 40 => ⟨S4x1024x10, .i1⟩
  | 41 => ⟨S_, .i32⟩
  | 42 => ⟨S4x1024x10, .i32⟩
  | 43 => ⟨S4x1024x10, .i32⟩
  | 44 => ⟨S4x1024x10, .i32⟩
  | 45 => ⟨S4x1024x10, .i32⟩
  | 46 => ⟨S4x1024x10x1, .i32⟩
  | 47 => ⟨S4x1024x10x1, .i32⟩
  | 48 => ⟨S4x1024x10x2, .i32⟩
  | 49 => ⟨S4x1024x10x256, .f32⟩
  | 50 => ⟨S4x1024x1x256, .f32⟩
  | 51 => ⟨S4x1024x10x256, .f32⟩
  | 52 => ⟨S4x1024x10x512, .f32⟩
  | 53 => ⟨S4x1024x10x256, .f32⟩
  | 54 => ⟨S1x1x1x256, .f32⟩
  | 55 => ⟨S4x1024x10x256, .f32⟩
  | 56 => ⟨S4x1024x10x256, .f32⟩
  | 57 => ⟨S_, .f32⟩
  | 58 => ⟨S4x1024x10, .f32⟩
  | 59 => ⟨S4x1024x10x1, .f32⟩
  | 60 => ⟨S_, .f32⟩
  | 61 => ⟨S4x1024x10x1, .f32⟩
  | 62 => ⟨S4x1024x10x1, .f32⟩
  | 63 => ⟨S_, .i32⟩
  | 64 => ⟨S_, .f32⟩
  | 65 => ⟨S4x1024x10, .f32⟩
  | 66 => ⟨S4x1024x10x1, .f32⟩
  | 67 => ⟨S_, .f32⟩
  | 68 => ⟨S4x1024x10x1, .f32⟩
  | 69 => ⟨S4x1024x10x1, .f32⟩
  | 70 => ⟨S4x1024x10x256, .f32⟩
  | 71 => ⟨S4x1024x10x256, .f32⟩
  | 72 => ⟨S4x1024x10x256, .f32⟩
  | 73 => ⟨S_, .f32⟩
  | 74 => ⟨S_, .f32⟩
  | 75 => ⟨S_, .f32⟩
  | 76 => ⟨S_, .f32⟩
  | 77 => ⟨S4x1024x10, .f32⟩
  | 78 => ⟨S4x1024x10x1, .f32⟩
  | 79 => ⟨S4x1024x10x1, .f32⟩
  | 80 => ⟨S4x1024x10x1, .f32⟩
  | 81 => ⟨S_, .f32⟩
  | 82 => ⟨S_, .i1⟩
  | 83 => ⟨S_, .f32⟩
  | 84 => ⟨S_, .f32⟩
  | 85 => ⟨S4x1024x10x1, .f32⟩
  | 86 => ⟨S4x1024x10x1, .f32⟩
  | 87 => ⟨S4x1024x10x256, .f32⟩
  | 88 => ⟨S4x1024x10x256, .f32⟩
  | 89 => ⟨S_, .f32⟩
  | 90 => ⟨S4x1024x10x1, .f32⟩
  | 91 => ⟨S4x1024x10x1, .f32⟩
  | 92 => ⟨S4x1024x10x1, .f32⟩
  | 93 => ⟨S4x1024x10x256, .f32⟩
  | 94 => ⟨S4x1024x10x256, .f32⟩
  | 95 => ⟨S1x1x1x256, .f32⟩
  | 96 => ⟨S4x1024x10x256, .f32⟩
  | 97 => ⟨S4x1024x10x256, .f32⟩
  | 98 => ⟨S1x1x1x256, .f32⟩
  | 99 => ⟨S4x1024x10x256, .f32⟩
  | 100 => ⟨S4x1024x10x256, .f32⟩
  | 101 => ⟨S_, .f32⟩
  | 102 => ⟨S4x1024x10x256, .f32⟩
  | 103 => ⟨S4x1024x10x256, .f32⟩
  | 104 => ⟨S4x1024x10x256, .f32⟩
  | 105 => ⟨S_, .f32⟩
  | 106 => ⟨S4x1024x10x256, .f32⟩
  | 107 => ⟨S4x1024x10x256, .f32⟩
  | 108 => ⟨S4x1024x10x256, .f32⟩
  | 109 => ⟨S4x1024x10x256, .f32⟩
  | 110 => ⟨S4x1024x10x3, .f32⟩
  | 111 => ⟨S4x1024x10x3, .f32⟩
  | 112 => ⟨S_, .i32⟩
  | 113 => ⟨S4x1x1, .i32⟩
  | 114 => ⟨S4x1x1, .i1⟩
  | 115 => ⟨S_, .i32⟩
  | 116 => ⟨S4x1x1, .i32⟩
  | 117 => ⟨S4x1x1, .i32⟩
  | 118 => ⟨S4x1x1, .i32⟩
  | 119 => ⟨S_, .i32⟩
  | 120 => ⟨S4x1024x10, .i32⟩
  | 121 => ⟨S4x1024x10, .i1⟩
  | 122 => ⟨S_, .i32⟩
  | 123 => ⟨S4x1024x10, .i32⟩
  | 124 => ⟨S4x1024x10, .i32⟩
  | 125 => ⟨S4x1024x10, .i32⟩
  | 126 => ⟨S4x1024x10, .i32⟩
  | 127 => ⟨S4x1024x10x1, .i32⟩
  | _ => ⟨S4x1024x256, .f32⟩

abbrev hbmTy0_1 (i : Nat) : BufTy := match i % 128 with
  | 0 => ⟨S4x1024x10x1, .i32⟩
  | 1 => ⟨S4x1024x10x2, .i32⟩
  | 2 => ⟨S4x1024x10x3, .f32⟩
  | 3 => ⟨S_, .f32⟩
  | 4 => ⟨S4x1024x3, .f32⟩
  | 5 => ⟨S_, .f32⟩
  | 6 => ⟨S4x1024x3, .f32⟩
  | 7 => ⟨S4x1024x3, .f32⟩
  | 8 => ⟨S4x1024x1x3, .f32⟩
  | 9 => ⟨S_, .f32⟩
  | 10 => ⟨S4x1024x1x3, .f32⟩
  | 11 => ⟨S4x1024x1x3, .f32⟩
  | 12 => ⟨S4x1024x10x3, .f32⟩
  | 13 => ⟨S4x1024x10x3, .f32⟩
  | 14 => ⟨S4x1024x10x3, .f32⟩
  | 15 => ⟨S4x10240x3, .f32⟩
  | 16 => ⟨S4x3x1024, .f32⟩
  | 17 => ⟨S4x10240x1024, .f32⟩
  | 18 => ⟨S_, .f32⟩
  | 19 => ⟨S4x10240x1024, .f32⟩
  | 20 => ⟨S4x10240x1024, .f32⟩
  | 21 => ⟨S4x10240x3, .f32⟩
  | 22 => ⟨S_, .f32⟩
  | 23 => ⟨S4x10240, .f32⟩
  | 24 => ⟨S4x10240x1, .f32⟩
  | 25 => ⟨S4x10240x1024, .f32⟩
  | 26 => ⟨S4x10240x1024, .f32⟩
  | 27 => ⟨S4x1024x3, .f32⟩
  | 28 => ⟨S_, .f32⟩
  | 29 => ⟨S4x1024, .f32⟩
  | 30 => ⟨S4x1x1024, .f32⟩
  | 31 => ⟨S4x10240x1024, .f32⟩
  | 32 => ⟨S4x10240x1024, .f32⟩
  | 33 => ⟨S1x256, .f32⟩
  | 34 => ⟨S4x1024x256, .f32⟩
  | _ => ⟨S4x1024x256, .f32⟩

abbrev hbmTy (i : Nat) : BufTy := match i / 128 with
  | 0 => hbmTy0_0 i
  | 1 => hbmTy0_1 i
  | _ => ⟨S4x1024x256, .f32⟩

abbrev bufTy : (tb : Table) → Fin (tcTables nBuf tb) → BufTy
  | .hbm, ⟨i, _⟩ => hbmTy i
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S1x256, .f32⟩
  | .local _ .vmem, ⟨4, _⟩ => ⟨S1x1024x256, .f32⟩
  | .local _ .vmem, ⟨5, _⟩ => ⟨S1x1024x256, .f32⟩
  | .local _ .vmem, ⟨6, _⟩ => ⟨S1x128x256, .f32⟩
  | .local _ .vmem, ⟨7, _⟩ => ⟨S1x128x256, .f32⟩
  | .local _ .vmem, ⟨8, _⟩ => ⟨S1x128x8, .f32⟩
  | .local _ .vmem, ⟨9, _⟩ => ⟨S1x128x8, .f32⟩
  | .local _ .vmem, ⟨10, _⟩ => ⟨S1x1024x8, .f32⟩
  | .local _ .vmem, ⟨11, _⟩ => ⟨S1x1024x8, .f32⟩
  | .local _ .vmem, ⟨12, _⟩ => ⟨S1x8x1024, .f32⟩
  | .local _ .vmem, ⟨13, _⟩ => ⟨S1x8x1024, .f32⟩
  | .local _ .vmem, ⟨14, _⟩ => ⟨S1x128x1, .f32⟩
  | .local _ .vmem, ⟨15, _⟩ => ⟨S1x128x1, .f32⟩
  | .local _ .vmem, ⟨16, _⟩ => ⟨S1x1x1024, .f32⟩
  | .local _ .vmem, ⟨17, _⟩ => ⟨S1x1x1024, .f32⟩
  | .local _ .vmem, ⟨18, _⟩ => ⟨S1x1024x256, .f32⟩
  | .local _ .vmem, ⟨19, _⟩ => ⟨S1x1024x256, .f32⟩
  | .local _ .vmem, ⟨20, _⟩ => ⟨S512x256, .f32⟩
  | .local _ .vmem, ⟨21, _⟩ => ⟨S1x256, .f32⟩
  | .local _ .vmem, ⟨22, _⟩ => ⟨S1x1x1280x256, .f32⟩
  | .local _ .vmem, ⟨23, _⟩ => ⟨S1x1x1280x256, .f32⟩
  | .local _ .vmem, ⟨24, _⟩ => ⟨S1x1x1280x8, .f32⟩
  | .local _ .vmem, ⟨25, _⟩ => ⟨S1x1x1280x8, .f32⟩
  | .local _ .vmem, ⟨26, _⟩ => ⟨S1x128x10, .i32⟩
  | .local _ .vmem, ⟨27, _⟩ => ⟨S1x128x10, .i32⟩
  | .local _ .vmem, ⟨28, _⟩ => ⟨S1x128x256, .f32⟩
  | .local _ .vmem, ⟨29, _⟩ => ⟨S1x128x256, .f32⟩
  | .local _ .vmem, ⟨30, _⟩ => ⟨S1x1024x256, .f32⟩
  | .local _ .vmem, ⟨31, _⟩ => ⟨S1x1024x256, .f32⟩
  | .local _ .vmem, ⟨32, _⟩ => ⟨S1x1280x1024, .f32⟩
  | .local _ .vmem, ⟨33, _⟩ => ⟨S1x1280x1024, .f32⟩
  | .local _ .vmem, ⟨34, _⟩ => ⟨S512x256, .f32⟩
  | .local _ .vmem, ⟨35, _⟩ => ⟨S1x256, .f32⟩
  | .local _ .vmem, ⟨36, _⟩ => ⟨S1x128x256, .f32⟩
  | .local _ .vmem, ⟨37, _⟩ => ⟨S1x128x256, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_c_7 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_cst_1 : Ref sig .tc := ⟨.hbm, 74, rfl⟩
abbrev main_call2_v8 : Ref sig .tc := ⟨.hbm, 75, rfl⟩
abbrev main_call2_cst_2 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_cst_3 : Ref sig .tc := ⟨.hbm, 81, rfl⟩
abbrev main_call2_v13 : Ref sig .tc := ⟨.hbm, 82, rfl⟩
abbrev main_call2_cst_4 : Ref sig .tc := ⟨.hbm, 83, rfl⟩
abbrev main_call2_call0_v0 : Ref sig .tc := ⟨.hbm, 84, rfl⟩
abbrev main_call2_call0_v1 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_8 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_9 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_10 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_11 : Ref sig .tc := ⟨.hbm, 112, rfl⟩
abbrev main_v62 : Ref sig .tc := ⟨.hbm, 113, rfl⟩
abbrev main_v63 : Ref sig .tc := ⟨.hbm, 114, rfl⟩
abbrev main_c_12 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_c_13 : Ref sig .tc := ⟨.hbm, 119, rfl⟩
abbrev main_v67 : Ref sig .tc := ⟨.hbm, 120, rfl⟩
abbrev main_v68 : Ref sig .tc := ⟨.hbm, 121, rfl⟩
abbrev main_c_14 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_15 : Ref sig .tc := ⟨.hbm, 131, rfl⟩
abbrev main_v77 : Ref sig .tc := ⟨.hbm, 132, rfl⟩
abbrev main_cst_16 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_17 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_18 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_19 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_20 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem5_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1x1280x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1x1280x8 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x128x10 .i32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x128x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1280x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S4x1024x256 : Shape := ⟨3, ![4, 1024, 256]⟩
abbrev S4x1024x3 : Shape := ⟨3, ![4, 1024, 3]⟩
abbrev S256x256 : Shape := ⟨2, ![256, 256]⟩
abbrev S256 : Shape := ⟨1, ![256]⟩
abbrev S512x256 : Shape := ⟨2, ![512, 256]⟩
abbrev S256x3 : Shape := ⟨2, ![256, 3]⟩
abbrev S4x3x1024 : Shape := ⟨3, ![4, 3, 1024]⟩
abbrev S4x1024x1024 : Shape := ⟨3, ![4, 1024, 1024]⟩
abbrev S_ : Shape := ⟨0, ![]⟩
abbrev S4x1024 : Shape := ⟨2, ![4, 1024]⟩
abbrev S4x1024x1 : Shape := ⟨3, ![4, 1024, 1]⟩
abbrev S4x1x1024 : Shape := ⟨3, ![4, 1, 1024]⟩
abbrev S4x1024x10 : Shape := ⟨3, ![4, 1024, 10]⟩
abbrev S4 : Shape := ⟨1, ![4]⟩
abbrev S4x1x1 : Shape := ⟨3, ![4, 1, 1]⟩
abbrev S1x1x256 : Shape := ⟨3, ![1, 1, 256]⟩
abbrev S4x1024x10x1 : Shape := ⟨4, ![4, 1024, 10, 1]⟩
abbrev S4x1024x10x2 : Shape := ⟨4, ![4, 1024, 10, 2]⟩
abbrev S4x1024x10x256 : Shape := ⟨4, ![4, 1024, 10, 256]⟩
abbrev S4x1024x1x256 : Shape := ⟨4, ![4, 1024, 1, 256]⟩
abbrev S4x1024x10x512 : Shape := ⟨4, ![4, 1024, 10, 512]⟩
abbrev S1x1x1x256 : Shape := ⟨4, ![1, 1, 1, 256]⟩
abbrev S4x1024x10x3 : Shape := ⟨4, ![4, 1024, 10, 3]⟩
abbrev S4x1024x1x3 : Shape := ⟨4, ![4, 1024, 1, 3]⟩
abbrev S4x10240x3 : Shape := ⟨3, ![4, 10240, 3]⟩
abbrev S4x10240x1024 : Shape := ⟨3, ![4, 10240, 1024]⟩
abbrev S4x10240 : Shape := ⟨2, ![4, 10240]⟩
abbrev S4x10240x1 : Shape := ⟨3, ![4, 10240, 1]⟩
abbrev S4x10240x3x1 : Shape := ⟨4, ![4, 10240, 3, 1]⟩
abbrev S4x10240x3x2 : Shape := ⟨4, ![4, 10240, 3, 2]⟩
abbrev S4x10240x3x256 : Shape := ⟨4, ![4, 10240, 3, 256]⟩
abbrev S4x10240x256 : Shape := ⟨3, ![4, 10240, 256]⟩

abbrev nBuf : Space → Nat
  | .hbm => 223
  | .vmem => 0
  | .smem => 0
  | _ => 0

abbrev hbmTy0_0 (i : Nat) : BufTy := match i % 128 with
  | 0 => ⟨S4x1024x256, .f32⟩
  | 1 => ⟨S4x1024x3, .f32⟩
  | 2 => ⟨S256x256, .f32⟩
  | 3 => ⟨S256, .f32⟩
  | 4 => ⟨S512x256, .f32⟩
  | 5 => ⟨S256, .f32⟩
  | 6 => ⟨S256, .f32⟩
  | 7 => ⟨S256, .f32⟩
  | 8 => ⟨S256x3, .f32⟩
  | 9 => ⟨S512x256, .f32⟩
  | 10 => ⟨S256, .f32⟩
  | 11 => ⟨S4x3x1024, .f32⟩
  | 12 => ⟨S4x1024x1024, .f32⟩
  | 13 => ⟨S_, .f32⟩
  | 14 => ⟨S4x1024x1024, .f32⟩
  | 15 => ⟨S4x1024x1024, .f32⟩
  | 16 => ⟨S4x1024x3, .f32⟩
  | 17 => ⟨S_, .f32⟩
  | 18 => ⟨S4x1024, .f32⟩
  | 19 => ⟨S4x1024x1, .f32⟩
  | 20 => ⟨S4x1024x1024, .f32⟩
  | 21 => ⟨S4x1024x1024, .f32⟩
  | 22 => ⟨S4x1024x3, .f32⟩
  | 23 => ⟨S_, .f32⟩
  | 24 => ⟨S4x1024, .f32⟩
  | 25 => ⟨S4x1x1024, .f32⟩
  | 26 => ⟨S4x1024x1024, .f32⟩
  | 27 => ⟨S4x1024x1024, .f32⟩
  | 28 => ⟨S4x1024x1024, .f32⟩
  | 29 => ⟨S4x1024x10, .f32⟩
  | 30 => ⟨S4x1024x10, .i32⟩
  | 31 => ⟨S4, .i32⟩
  | 32 => ⟨S4x1x1, .i32⟩
  | 33 => ⟨S4x1024x256, .f32⟩
  | 34 => ⟨S1x1x256, .f32⟩
  | 35 => ⟨S4x1024x256, .f32⟩
  | 36 => ⟨S4x1024x256, .f32⟩
  | 37 => ⟨S_, .i32⟩
  | 38 => ⟨S4x1x1, .i32⟩
  | 39 => ⟨S4x1x1, .i1⟩
  | 40 => ⟨S_, .i32⟩
  | 41 => ⟨S4x1x1, .i32⟩
  | 42 => ⟨S4x1x1, .i32⟩
  | 43 => ⟨S4x1x1, .i32⟩
  | 44 => ⟨S_, .i32⟩
  | 45 => ⟨S4x1024x10, .i32⟩
  | 46 => ⟨S4x1024x10, .i1⟩
  | 47 => ⟨S_, .i32⟩
  | 48 => ⟨S4x1024x10, .i32⟩
  | 49 => ⟨S4x1024x10, .i32⟩
  | 50 => ⟨S4x1024x10, .i32⟩
  | 51 => ⟨S4x1024x10, .i32⟩
  | 52 => ⟨S4x1024x10x1, .i32⟩
  | 53 => ⟨S4x1024x10x1, .i32⟩
  | 54 => ⟨S4x1024x10x2, .i32⟩
  | 55 => ⟨S4x1024x10x256, .f32⟩
  | 56 => ⟨S4x1024x1x256, .f32⟩
  | 57 => ⟨S4x1024x10x256, .f32⟩
  | 58 => ⟨S4x1024x10x512, .f32⟩
  | 59 => ⟨S4x1024x10x256, .f32⟩
  | 60 => ⟨S1x1x1x256, .f32⟩
  | 61 => ⟨S4x1024x10x256, .f32⟩
  | 62 => ⟨S4x1024x10x256, .f32⟩
  | 63 => ⟨S_, .f32⟩
  | 64 => ⟨S4x1024x10, .f32⟩
  | 65 => ⟨S4x1024x10x1, .f32⟩
  | 66 => ⟨S_, .f32⟩
  | 67 => ⟨S4x1024x10x1, .f32⟩
  | 68 => ⟨S4x1024x10x1, .f32⟩
  | 69 => ⟨S_, .i32⟩
  | 70 => ⟨S_, .f32⟩
  | 71 => ⟨S4x1024x10, .f32⟩
  | 72 => ⟨S4x1024x10x1, .f32⟩
  | 73 => ⟨S_, .f32⟩
  | 74 => ⟨S4x1024x10x1, .f32⟩
  | 75 => ⟨S4x1024x10x1, .f32⟩
  | 76 => ⟨S4x1024x10x256, .f32⟩
  | 77 => ⟨S4x1024x10x256, .f32⟩
  | 78 => ⟨S4x1024x10x256, .f32⟩
  | 79 => ⟨S_, .f32⟩
  | 80 => ⟨S_, .f32⟩
  | 81 => ⟨S_, .f32⟩
  | 82 => ⟨S_, .f32⟩
  | 83 => ⟨S4x1024x10, .f32⟩
  | 84 => ⟨S4x1024x10x1, .f32⟩
  | 85 => ⟨S4x1024x10x1, .f32⟩
  | 86 => ⟨S4x1024x10x1, .f32⟩
  | 87 => ⟨S_, .f32⟩
  | 88 => ⟨S_, .i1⟩
  | 89 => ⟨S_, .f32⟩
  | 90 => ⟨S_, .f32⟩
  | 91 => ⟨S4x1024x10x1, .f32⟩
  | 92 => ⟨S4x1024x10x1, .f32⟩
  | 93 => ⟨S4x1024x10x256, .f32⟩
  | 94 => ⟨S4x1024x10x256, .f32⟩
  | 95 => ⟨S_, .f32⟩
  | 96 => ⟨S4x1024x10x1, .f32⟩
  | 97 => ⟨S4x1024x10x1, .f32⟩
  | 98 => ⟨S4x1024x10x1, .f32⟩
  | 99 => ⟨S4x1024x10x256, .f32⟩
  | 100 => ⟨S4x1024x10x256, .f32⟩
  | 101 => ⟨S1x1x1x256, .f32⟩
  | 102 => ⟨S4x1024x10x256, .f32⟩
  | 103 => ⟨S4x1024x10x256, .f32⟩
  | 104 => ⟨S1x1x1x256, .f32⟩
  | 105 => ⟨S4x1024x10x256, .f32⟩
  | 106 => ⟨S4x1024x10x256, .f32⟩
  | 107 => ⟨S_, .f32⟩
  | 108 => ⟨S4x1024x10x256, .f32⟩
  | 109 => ⟨S4x1024x10x256, .f32⟩
  | 110 => ⟨S4x1024x10x256, .f32⟩
  | 111 => ⟨S_, .f32⟩
  | 112 => ⟨S4x1024x10x256, .f32⟩
  | 113 => ⟨S4x1024x10x256, .f32⟩
  | 114 => ⟨S4x1024x10x256, .f32⟩
  | 115 => ⟨S4x1024x10x256, .f32⟩
  | 116 => ⟨S4x1024x10x3, .f32⟩
  | 117 => ⟨S4x1024x10x3, .f32⟩
  | 118 => ⟨S_, .i32⟩
  | 119 => ⟨S4x1x1, .i32⟩
  | 120 => ⟨S4x1x1, .i1⟩
  | 121 => ⟨S_, .i32⟩
  | 122 => ⟨S4x1x1, .i32⟩
  | 123 => ⟨S4x1x1, .i32⟩
  | 124 => ⟨S4x1x1, .i32⟩
  | 125 => ⟨S_, .i32⟩
  | 126 => ⟨S4x1024x10, .i32⟩
  | 127 => ⟨S4x1024x10, .i1⟩
  | _ => ⟨S4x1024x256, .f32⟩

abbrev hbmTy0_1 (i : Nat) : BufTy := match i % 128 with
  | 0 => ⟨S_, .i32⟩
  | 1 => ⟨S4x1024x10, .i32⟩
  | 2 => ⟨S4x1024x10, .i32⟩
  | 3 => ⟨S4x1024x10, .i32⟩
  | 4 => ⟨S4x1024x10, .i32⟩
  | 5 => ⟨S4x1024x10x1, .i32⟩
  | 6 => ⟨S4x1024x10x1, .i32⟩
  | 7 => ⟨S4x1024x10x2, .i32⟩
  | 8 => ⟨S4x1024x10x3, .f32⟩
  | 9 => ⟨S_, .f32⟩
  | 10 => ⟨S4x1024x3, .f32⟩
  | 11 => ⟨S_, .f32⟩
  | 12 => ⟨S4x1024x3, .f32⟩
  | 13 => ⟨S4x1024x3, .f32⟩
  | 14 => ⟨S4x1024x1x3, .f32⟩
  | 15 => ⟨S_, .f32⟩
  | 16 => ⟨S4x1024x1x3, .f32⟩
  | 17 => ⟨S4x1024x1x3, .f32⟩
  | 18 => ⟨S4x1024x10x3, .f32⟩
  | 19 => ⟨S4x1024x10x3, .f32⟩
  | 20 => ⟨S4x1024x10x3, .f32⟩
  | 21 => ⟨S4x10240x3, .f32⟩
  | 22 => ⟨S4x3x1024, .f32⟩
  | 23 => ⟨S4x10240x1024, .f32⟩
  | 24 => ⟨S_, .f32⟩
  | 25 => ⟨S4x10240x1024, .f32⟩
  | 26 => ⟨S4x10240x1024, .f32⟩
  | 27 => ⟨S4x10240x3, .f32⟩
  | 28 => ⟨S_, .f32⟩
  | 29 => ⟨S4x10240, .f32⟩
  | 30 => ⟨S4x10240x1, .f32⟩
  | 31 => ⟨S4x10240x1024, .f32⟩
  | 32 => ⟨S4x10240x1024, .f32⟩
  | 33 => ⟨S4x1024x3, .f32⟩
  | 34 => ⟨S_, .f32⟩
  | 35 => ⟨S4x1024, .f32⟩
  | 36 => ⟨S4x1x1024, .f32⟩
  | 37 => ⟨S4x10240x1024, .f32⟩
  | 38 => ⟨S4x10240x1024, .f32⟩
  | 39 => ⟨S4x10240x1024, .f32⟩
  | 40 => ⟨S4x10240x3, .f32⟩
  | 41 => ⟨S4x10240x3, .i32⟩
  | 42 => ⟨S4x10240x3, .f32⟩
  | 43 => ⟨S_, .f32⟩
  | 44 => ⟨S4x10240x3, .f32⟩
  | 45 => ⟨S4x10240x3, .f32⟩
  | 46 => ⟨S_, .f32⟩
  | 47 => ⟨S4x10240x3, .f32⟩
  | 48 => ⟨S4x10240x3, .f32⟩
  | 49 => ⟨S_, .f32⟩
  | 50 => ⟨S4x10240, .f32⟩
  | 51 => ⟨S4x10240x1, .f32⟩
  | 52 => ⟨S4x10240x3, .f32⟩
  | 53 => ⟨S4x10240x3, .f32⟩
  | 54 => ⟨S_, .i32⟩
  | 55 => ⟨S4x1x1, .i32⟩
  | 56 => ⟨S4x1x1, .i1⟩
  | 57 => ⟨S_, .i32⟩
  | 58 => ⟨S4x1x1, .i32⟩
  | 59 => ⟨S4x1x1, .i32⟩
  | 60 => ⟨S4x1x1, .i32⟩
  | 61 => ⟨S_, .i32⟩
  | 62 => ⟨S4x10240x3, .i32⟩
  | 63 => ⟨S4x10240x3, .i1⟩
  | 64 => ⟨S_, .i32⟩
  | 65 => ⟨S4x10240x3, .i32⟩
  | 66 => ⟨S4x10240x3, .i32⟩
  | 67 => ⟨S4x10240x3, .i32⟩
  | 68 => ⟨S4x10240x3, .i32⟩
  | 69 => ⟨S4x10240x3x1, .i32⟩
  | 70 => ⟨S4x10240x3x1, .i32⟩
  | 71 => ⟨S4x10240x3x2, .i32⟩
  | 72 => ⟨S4x10240x3x256, .f32⟩
  | 73 => ⟨S4x10240x3x1, .f32⟩
  | 74 => ⟨S4x10240x3x256, .f32⟩
  | 75 => ⟨S4x10240x3x256, .f32⟩
  | 76 => ⟨S_, .f32⟩
  | 77 => ⟨S4x10240x256, .f32⟩
  | 78 => ⟨S4x1024x10x256, .f32⟩
  | 79 => ⟨S4x1024x10x256, .f32⟩
  | 80 => ⟨S4x1024x10x512, .f32⟩
  | 81 => ⟨S4x1024x10x256, .f32⟩
  | 82 => ⟨S1x1x1x256, .f32⟩
  | 83 => ⟨S4x1024x10x256, .f32⟩
  | 84 => ⟨S4x1024x10x256, .f32⟩
  | 85 => ⟨S_, .f32⟩
  | 86 => ⟨S_, .f32⟩
  | 87 => ⟨S4x1024x10x256, .f32⟩
  | 88 => ⟨S4x1024x10x256, .i1⟩
  | 89 => ⟨S_, .f32⟩
  | 90 => ⟨S4x1024x10x256, .f32⟩
  | 91 => ⟨S4x1024x10x256, .f32⟩
  | 92 => ⟨S4x1024x10x256, .f32⟩
  | 93 => ⟨S_, .f32⟩
  | 94 => ⟨S4x1024x256, .f32⟩
  | _ => ⟨S4x1024x256, .f32⟩

abbrev hbmTy (i : Nat) : BufTy := match i / 128 with
  | 0 => hbmTy0_0 i
  | 1 => hbmTy0_1 i
  | _ => ⟨S4x1024x256, .f32⟩

abbrev bufTy : (tb : Table) → Fin (tcTables nBuf tb) → BufTy
  | .hbm, ⟨i, _⟩ => hbmTy i
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_values : Ref sig .tc := ⟨.hbm, 29, rfl⟩
abbrev main_indices : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_v12 : Ref sig .tc := ⟨.hbm, 86, rfl⟩
abbrev main_call0_cst_3 : Ref sig .tc := ⟨.hbm, 87, rfl⟩
abbrev main_call0_v13 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_8 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_9 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_10 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_11 : Ref sig .tc := ⟨.hbm, 118, rfl⟩
abbrev main_v70 : Ref sig .tc := ⟨.hbm, 119, rfl⟩
abbrev main_v71 : Ref sig .tc := ⟨.hbm, 120, rfl⟩
abbrev main_c_12 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_13 : Ref sig .tc := ⟨.hbm, 125, rfl⟩
abbrev main_v75 : Ref sig .tc := ⟨.hbm, 126, rfl⟩
abbrev main_v76 : Ref sig .tc := ⟨.hbm, 127, rfl⟩
abbrev main_c_14 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_15 : Ref sig .tc := ⟨.hbm, 137, rfl⟩
abbrev main_v85 : Ref sig .tc := ⟨.hbm, 138, rfl⟩
abbrev main_cst_16 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_17 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_18 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_19 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_20 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_values_21 : Ref sig .tc := ⟨.hbm, 168, rfl⟩
abbrev main_indices_22 : Ref sig .tc := ⟨.hbm, 169, rfl⟩
abbrev main_v110 : Ref sig .tc := ⟨.hbm, 170, rfl⟩
abbrev main_cst_23 : Ref sig .tc := ⟨.hbm, 171, rfl⟩
abbrev main_v111 : Ref sig .tc := ⟨.hbm, 172, rfl⟩
abbrev main_v112 : Ref sig .tc := ⟨.hbm, 173, rfl⟩
abbrev main_cst_24 : Ref sig .tc := ⟨.hbm, 174, rfl⟩
abbrev main_v113 : Ref sig .tc := ⟨.hbm, 175, rfl⟩
abbrev main_v114 : Ref sig .tc := ⟨.hbm, 176, rfl⟩
abbrev main_cst_25 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_c_26 : Ref sig .tc := ⟨.hbm, 182, rfl⟩
abbrev main_v119 : Ref sig .tc := ⟨.hbm, 183, rfl⟩
abbrev main_v120 : Ref sig .tc := ⟨.hbm, 184, rfl⟩
abbrev main_c_27 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_c_28 : Ref sig .tc := ⟨.hbm, 189, rfl⟩
abbrev main_v124 : Ref sig .tc := ⟨.hbm, 190, rfl⟩
abbrev main_v125 : Ref sig .tc := ⟨.hbm, 191, rfl⟩
abbrev main_c_29 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_cst_30 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_31 : Ref sig .tc := ⟨.hbm, 213, rfl⟩
abbrev main_call1_cst : Ref sig .tc := ⟨.hbm, 214, rfl⟩
abbrev main_call1_v0 : Ref sig .tc := ⟨.hbm, 215, rfl⟩
abbrev main_call1_v1 : Ref sig .tc := ⟨.hbm, 216, rfl⟩
abbrev main_call1_v2 : Ref sig .tc := ⟨.hbm, 217, rfl⟩
abbrev main_call1_v3 : Ref sig .tc := ⟨.hbm, 218, rfl⟩
abbrev main_call1_v4 : Ref sig .tc := ⟨.hbm, 219, rfl⟩
abbrev main_v145 : Ref sig .tc := ⟨.hbm, 220, rfl⟩
abbrev main_cst_32 : Ref sig .tc := ⟨.hbm, 221, rfl⟩
abbrev main_v146 : Ref sig .tc := ⟨.hbm, 222, rfl⟩

abbrev nD : Nat := 1
abbrev τ : Topo := Topo.v7x

variable {F : FTy → Type} [FloatOps F]
-- ==== Proof.Select.lean ====
/- The `k` nearest of a row of distances, found one at a time: take the first position of the least entry, cover it with
   `⊤`, and go on. Here: what `k` such rounds pick are the first `k` positions of the stable ascending sort of the row
   (`sortedFrom_eq_pick`), so they are what a top-k of the negated row returns (`topK_index`, `topK_value`), as long as
   every entry of the row is below `⊤`. -/
module

public import Idealize.ShloMosaic.Lib.SortPrefix
public import Idealize.ShloMosaic.PureOps.ShapeOps
public import Idealize.ShloMosaic.PureOps.Ideal.Laws
public import Idealize.ShloMosaic.Lib.ValueIdx
public import Idealize.ShloMosaic.Lib.Pipeline.Value

@[expose] public section

noncomputable section

namespace Cert.Proof

open Idealize.ShloMosaic Idealize.ShloMosaic.ValueIdx

variable {n : Nat}

/-- `j` is the first position of the least entry of `e`. -/
def IsFirst (e : Fin n → EReal) (j : Fin n) : Prop := (∀ i, e j ≤ e i) ∧ ∀ i, i < j → e j < e i

/-- A row that is not empty has a first least entry. -/
theorem exists_isFirst [NeZero n] (e : Fin n → EReal) : ∃ j, IsFirst e j := by
  classical
  obtain ⟨m, -, hm⟩ := Finset.exists_min_image Finset.univ e ⟨(0 : Fin n), Finset.mem_univ _⟩
  obtain ⟨j, hj, hmin⟩ := Finset.exists_min_image (Finset.univ.filter fun i => e i = e m) id ⟨m, by simp⟩
  have ej : e j = e m := (Finset.mem_filter.mp hj).2
  refine ⟨j, fun i => ej ▸ hm i (Finset.mem_univ _), fun i hi => lt_of_le_of_ne (ej ▸ hm i (Finset.mem_univ _)) fun h => ?_⟩
  exact absurd hi (not_lt.mpr (hmin i (Finset.mem_filter.mpr ⟨Finset.mem_univ _, h.symm.trans ej⟩)))

/-- There is one such position. -/
theorem IsFirst.unique {e : Fin n → EReal} {i j : Fin n} (hi : IsFirst e i) (hj : IsFirst e j) : i = j := by
  rcases lt_trichotomy i j with h | h | h
  · exact absurd (hj.2 i h) (not_lt.mpr (hi.1 j))
  · exact h
  · exact absurd (hi.2 j h) (not_lt.mpr (hj.1 i))

/-- The first position of the least entry. -/
def first [NeZero n] (e : Fin n → EReal) : Fin n := (exists_isFirst e).choose

theorem first_spec [NeZero n] (e : Fin n → EReal) : IsFirst e (first e) := (exists_isFirst e).choose_spec

/-- The row with its first least entry covered. -/
def cover [NeZero n] (e : Fin n → EReal) : Fin n → EReal := fun j => if j = first e then ⊤ else e j

/-- The row after `k` rounds. -/
def rest [NeZero n] (d : Fin n → EReal) : Nat → Fin n → EReal
  | 0 => d
  | k + 1 => cover (rest d k)

/-- What round `k` picks. -/
def pick [NeZero n] (d : Fin n → EReal) (k : Nat) : Fin n := first (rest d k)

section Rounds

variable [NeZero n] (d : Fin n → EReal)

/-- After `k` rounds an entry is covered if one of the rounds picked it, and else is the row's own. -/
theorem rest_of_ne (k : Nat) (i : Fin n) (h : ∀ l, l < k → pick d l ≠ i) : rest d k i = d i := by
  induction k with
  | zero => rfl
  | succ k ih =>
    show (if i = pick d k then ⊤ else rest d k i) = d i
    rw [if_neg (fun e => h k (Nat.lt_succ_self k) e.symm), ih fun l hl => h l (Nat.lt_succ_of_lt hl)]

theorem rest_of_eq (k l : Nat) (hl : l < k) : rest d k (pick d l) = ⊤ := by
  induction k with
  | zero => omega
  | succ k ih =>
    show (if pick d l = pick d k then ⊤ else rest d k (pick d l)) = ⊤
    split
    · rfl
    · rename_i hne
      exact ih (lt_of_le_of_ne (Nat.lt_succ_iff.mp hl) fun e => hne (by rw [e]))

variable (hd : ∀ i, d i < ⊤)
include hd

/-- The rounds, fewer than there are entries, pick different positions. -/
theorem pick_ne {k : Nat} (hk : k < n) (l : Nat) (hl : l < k) : pick d l ≠ pick d k := by
  classical
  have hcard : ((Finset.range k).image (pick d)).card < (Finset.univ : Finset (Fin n)).card :=
    lt_of_le_of_lt (Finset.card_image_le.trans_eq (Finset.card_range k)) (by rw [Finset.card_univ, Fintype.card_fin]; exact hk)
  obtain ⟨i, -, hi⟩ := Finset.exists_mem_notMem_of_card_lt_card hcard
  have hi' : ∀ l, l < k → pick d l ≠ i := fun l hl e => hi (Finset.mem_image.mpr ⟨l, Finset.mem_range.mpr hl, e⟩)
  have h1 : rest d k (pick d k) < ⊤ := lt_of_le_of_lt ((first_spec (rest d k)).1 i) ((rest_of_ne d k i hi').symm ▸ hd i)
  intro e
  rw [← e, rest_of_eq d k l hl] at h1
  exact lt_irrefl _ h1

/-- A pick's entry is still the row's own when it is picked. -/
theorem rest_pick {k : Nat} (hk : k < n) : rest d k (pick d k) = d (pick d k) :=
  rest_of_ne d k _ fun l hl => pick_ne d hd hk l hl

/-- Of the positions not picked before, none sorts before the pick. -/
theorem not_before_pick {k : Nat} (hk : k < n) (p : Fin n) (hp : ∀ l, l < k → pick d l ≠ p) :
    ¬ (d p < d (pick d k) ∨ (d p = d (pick d k) ∧ p < pick d k)) := by
  have hs := first_spec (rest d k)
  have e1 := rest_pick d hd hk
  have e2 := rest_of_ne d k p hp
  rintro (h | ⟨h, hlt⟩)
  · have := hs.1 p
    change rest d k (pick d k) ≤ rest d k p at this
    rw [e1, e2] at this
    exact absurd h (not_lt.mpr this)
  · have := hs.2 p hlt
    change rest d k (pick d k) < rest d k p at this
    rw [e1, e2, h] at this
    exact lt_irrefl _ this

end Rounds

/-- The stable sort of an increasing list of positions asks only whether a later position is before an earlier one. -/
theorem stableSort_congr_later (R R' : Fin n → Fin n → Bool) (l : List (Fin n)) (hl : l.Pairwise (· < ·))
    (h : ∀ a b, a < b → R b a = R' b a) : stableSort R l = stableSort R' l := by
  induction l with
  | nil => rfl
  | cons a l ih =>
    unfold stableSort
    rw [ih (List.pairwise_cons.mp hl).2]
    refine insertBefore_congr R R' a _ fun b hb => h a b ?_
    exact (List.pairwise_cons.mp hl).1 b ((perm_stableSort R' l).mem_iff.mp hb)

/-- The first `k` positions of the stable ascending sort of a row are what `k` rounds pick. -/
theorem sortedFrom_eq_pick [NeZero n] (d : Fin n → EReal) (hd : ∀ i, d i < ⊤) (R : Fin n → Fin n → Bool)
    (hR : ∀ i j, R i j = decide (d i < d j)) {k : Nat} (hk : k < n) : sortedFrom R ⟨k, hk⟩ = pick d k := by
  classical
  let B : Fin n → Fin n → Bool := fun i j => decide (d i < d j) || (decide (d i = d j) && decide (i < j))
  have hB : StrictTotalBefore B := StrictTotalBefore.of_key_then_position (fun x y : EReal => decide (x < y)) d
    (fun a => by simp) (fun a b c h1 h2 => by
      simp only [decide_eq_true_eq] at h1 h2 ⊢; exact lt_trans h1 h2)
    (fun a b => by simp only [decide_eq_true_eq]; exact lt_trichotomy a b)
  have hRB : sortedFrom R ⟨k, hk⟩ = sortedFrom B ⟨k, hk⟩ := by
    have : stableSort R (List.finRange n) = stableSort B (List.finRange n) := by
      refine stableSort_congr_later R B _ (List.pairwise_lt_finRange n) fun a b hab => ?_
      show R b a = (decide (d b < d a) || (decide (d b = d a) && decide (b < a)))
      rw [hR, decide_eq_false (not_lt.mpr hab.le)]
      simp
    unfold sortedFrom
    rw [List.get_of_eq (show sortPositions n R = sortPositions n B from this)]
    rfl
  rw [hRB]
  have hpre := hB.sortedFrom_eq_of_prefix (k := k + 1) hk (fun i => pick d i) ?_ ?_ ?_ ⟨k, Nat.lt_succ_self k⟩
  · exact hpre
  · intro i j hij
    have hij' : pick d i = pick d j := hij
    rcases lt_trichotomy i.val j.val with h | h | h
    · exact absurd hij' (pick_ne d hd (lt_of_lt_of_le j.isLt hk) _ h)
    · exact Fin.ext h
    · exact absurd hij'.symm (pick_ne d hd (lt_of_lt_of_le i.isLt hk) _ h)
  · intro i j hij
    have := not_before_pick d hd (lt_of_lt_of_le i.isLt hk) (pick d j)
      fun l hl => pick_ne d hd (lt_of_lt_of_le j.isLt hk) l (lt_trans hl hij)
    simpa [B] using this
  · intro i p hp
    have := not_before_pick d hd (lt_of_lt_of_le i.isLt hk) p fun l hl => hp ⟨l, lt_trans hl i.isLt⟩
    simpa [B] using this

section TopK

variable {A R N K : Nat} [NeZero N]

/-- The comparison by which a top-k of negated distances sorts: nearer first. -/
theorem cmp_neg (x y : EReal) :
    (FloatOps.cmpfTotal (F := Ideal) (φ := .f32) .gt (-x : EReal) (-y : EReal) == 1#1) = decide (x < y) := by
  show (BitVec.ofBool (decide (-y < -x)) == 1#1) = decide (x < y)
  rw [decide_eq_decide.mpr (EReal.neg_lt_neg_iff (a := y) (b := x))]
  cases decide (x < y) <;> rfl

variable (hK : K ≤ N) (x : Vec Ideal ⟨3, ![A, R, N]⟩ .f32)
  (h : (⟨3, ![A, R, N]⟩ : Shape).Slices (fun _ => 0) ⟨3, ![A, R, K]⟩) (a : Fin A) (r : Fin R) (k : Fin K)
  (d : Fin N → EReal) (hd : ∀ i, d i < ⊤) (hx : ∀ i, x (ix3 a r i) = -(d i))
include hK hd hx

/-- Where the sort inside a top-k of a negated row finds its `k`-th entry: at the `k`-th pick. -/
theorem sorted_negated : sortedFrom (n := N) (fun p q =>
      FloatOps.cmpfTotal (F := Ideal) (φ := .f32) .gt (x ((ix3 a r (k.castLE hK) : (⟨3, ![A, R, N]⟩ : Shape).Idx).along 2 p))
        (x ((ix3 a r (k.castLE hK) : (⟨3, ![A, R, N]⟩ : Shape).Idx).along 2 q)) == 1#1) (k.castLE hK) = pick d k := by
  have e : ∀ p : Fin N, (ix3 a r (k.castLE hK) : (⟨3, ![A, R, N]⟩ : Shape).Idx).along 2 p = ix3 a r p := fun p => by
    funext b; match b with | ⟨0, _⟩ => rfl | ⟨1, _⟩ => rfl | ⟨2, _⟩ => rfl
  refine sortedFrom_eq_pick d hd _ (fun p q => ?_) (lt_of_lt_of_le k.isLt hK)
  rw [e, e, hx, hx]
  exact cmp_neg _ _

omit [NeZero N] hd hx in
/-- The slice that a top-k takes of the sorted array reads the same place. -/
theorem slice_front {α : Type} (z : (⟨3, ![A, R, N]⟩ : Shape).Idx → α) :
    extractStridedSlice ⟨3, ![A, R, K]⟩ (fun _ => 0) z h (ix3 a r k) = z (ix3 a r (k.castLE hK)) :=
  extractStridedSlice_apply _ _ _ _ _ fun b => by
    match b with
    | ⟨0, _⟩ => exact (Nat.zero_add _).symm
    | ⟨1, _⟩ => exact (Nat.zero_add _).symm
    | ⟨2, _⟩ => exact (Nat.zero_add _).symm

/-- The indices that a top-k of a negated row returns are the picks. -/
theorem topK_index :
    (Host.topK (s := ⟨3, ![A, R, N]⟩) ⟨3, ![A, R, K]⟩ 2 (FloatOps.cmpfTotal (F := Ideal) (φ := .f32) .gt) x h).2 (ix3 a r k)
      = BitVec.ofNat 32 (pick d k) := by
  rw [← sorted_negated hK x a r k d hd hx]
  unfold Host.topK
  dsimp only
  rw [slice_front hK]
  unfold Host.sort2
  rw [dif_pos (Nat.lt_succ_self 2 : 2 < (⟨3, ![A, R, N]⟩ : Shape).rank)]
  simp only [dif_pos (Nat.lt_succ_self 2)]
  rfl

/-- The values that it returns are the negated entries at the picks. -/
theorem topK_value :
    (Host.topK (s := ⟨3, ![A, R, N]⟩) ⟨3, ![A, R, K]⟩ 2 (FloatOps.cmpfTotal (F := Ideal) (φ := .f32) .gt) x h).1 (ix3 a r k)
      = -(d (pick d k)) := by
  rw [← hx, ← sorted_negated hK x a r k d hd hx]
  unfold Host.topK
  dsimp only
  rw [slice_front hK]
  unfold Host.sort2
  rw [dif_pos (Nat.lt_succ_self 2 : 2 < (⟨3, ![A, R, N]⟩ : Shape).rank)]
  refine congrArg x (funext fun b => ?_)
  match b with
  | ⟨0, _⟩ => rfl
  | ⟨1, _⟩ => rfl
  | ⟨2, _⟩ => rfl

end TopK

end Cert.Proof

end
-- ==== Proof.Rounds.lean ====
/- One round of the kernels' nearest-neighbour search on a block of `R` rows of 1024 distances, as the kernels write it:
   the row's minimum, the least position that holds it (positions that do not hold it reading 1024), a mask of that
   position, and the block with the masked entries put to `⊤`. Here: the round read at a row is `first` and `cover` of
   that row (Select.lean). -/
module

public import proofs.«01_k».proof.Proof.Select
public import Idealize.ShloMosaic.Lib.SortNet.Extract
public import Idealize.ShloMosaic.PureOps.Reduce

@[expose] public section

noncomputable section

namespace Cert.Proof

open Idealize.ShloMosaic Idealize.ShloMosaic.ValueIdx

variable {R : Nat}

/-- `R` rows of 1024 entries, their reductions along a row, and those as a column. -/
abbrev Rows (R : Nat) : Shape := ⟨2, ![R, 1024]⟩
abbrev Line (R : Nat) : Shape := ⟨1, ![R]⟩
abbrev Col (R : Nat) : Shape := ⟨2, ![R, 1]⟩

/-- Row `r` of a block. -/
def row (x : FVec Ideal (Rows R) .f32) (r : Fin R) : Fin 1024 → EReal := fun j => x (ix2 r j)

/-- The shape facts that a round is printed with. -/
structure RoundShapes (R : Nat) : Prop where
  red : (Rows R).Reduces [1] (Line R)
  col : (Line R).ShapeCasts (Col R)
  bc : (Col R).Broadcasts (Rows R)

variable (S : RoundShapes R)

/-- The minimum of each row, as a column. -/
def minCol (x : FVec Ideal (Rows R) .f32) : FVec Ideal (Col R) .f32 :=
  shapeCast (Col R) (multiReduction .minimumf [1] (Line R) x 0x7F800000#32 S.red (.inl rfl) rfl) S.col

/-- The least position of each row's minimum, as a column; `io` is the positions. -/
def idxCol (io : IVec (Rows R) 32) (x : FVec Ideal (Rows R) .f32) : IVec (Col R) 32 :=
  shapeCast (Col R) (multiReductionI .minsi [1] (Line R)
    (select (cmpf .oeq x (broadcastTo (Rows R) (minCol S x) S.bc)) io (broadcast (Rows R) 1024#32))
    2147483647#32 S.red rfl) S.col

/-- The mask of a column of positions. -/
def hitOf (io : IVec (Rows R) 32) (v : IVec (Col R) 32) : IVec (Rows R) 1 :=
  cmpi .eq io (broadcastTo (Rows R) v S.bc)

/-- The block with the masked entries put to `⊤`. -/
def coverHit (hit : IVec (Rows R) 1) (x : FVec Ideal (Rows R) .f32) : FVec Ideal (Rows R) .f32 :=
  select hit (broadcast (Rows R) (Scalar.ofBits .f32 0x7F800000#32)) x

/-- The block after one round. -/
def roundOf (io : IVec (Rows R) 32) (x : FVec Ideal (Rows R) .f32) : FVec Ideal (Rows R) .f32 :=
  coverHit (hitOf S io (idxCol S io x)) x

/-- The pattern of positive infinity is `⊤`. -/
theorem ofBits_inf : Ideal.ofBits .f32 0x7F800000#32 = ⊤ := by
  simp [Ideal.ofBits, Ideal.ieee]

theorem lift_row (h : (Rows R).Reduces [1] (Line R)) (r : Fin R) (j : Fin 1024) : h.lift (ix1 r) j = ix2 r j := by
  funext a
  match a with
  | ⟨0, _⟩ => rfl
  | ⟨1, _⟩ => rfl

theorem col_apply {α : Type} (v : (Line R).Idx → α) (h : (Line R).ShapeCasts (Col R)) (r : Fin R) :
    shapeCast (Col R) v h (ix2 r 0) = v (ix1 r) :=
  shapeCast_apply _ _ _ _ (by
    rw [Shape.rowMajor_val_one, Shape.rowMajor_val_two]
    show r.val = r.val * 1 + 0
    omega)

theorem spread_apply {α : Type} (v : (Col R).Idx → α) (h : (Col R).Broadcasts (Rows R)) (r : Fin R) (j : Fin 1024) :
    broadcastTo (Rows R) v h (ix2 r j) = v (ix2 r 0) :=
  broadcastTo_apply _ _ _ _ fun a => by
    match a with
    | ⟨0, _⟩ =>
      show r.val = if R = 1 then 0 else r.val
      split
      · have := r.isLt; omega
      · rfl
    | ⟨1, _⟩ => rfl

/-- A fold of the minimum over a row from `⊤` is the row's first least entry. -/
theorem fold_min_first (e : Fin 1024 → EReal) : Finset.univ.fold min ⊤ e = e (first e) := by
  refine le_antisymm ((Finset.fold_min_le _).mpr (Or.inr ⟨first e, Finset.mem_univ _, le_rfl⟩)) ?_
  exact (Finset.le_fold_min _).mpr ⟨le_top, fun i _ => (first_spec e).1 i⟩

/-- Row `r`'s minimum is its first least entry. -/
theorem minCol_apply (x : FVec Ideal (Rows R) .f32) (r : Fin R) : minCol S x (ix2 r 0) = row x r (first (row x r)) := by
  refine (col_apply _ _ r).trans ((multiReduction_minimumf_eq_fold x _ S.red _ _ _).trans ?_)
  rw [S.red.fold_filter_drop_single, ← fold_min_first (row x r)]
  have hx : x ∘ S.red.lift (ix1 r) = row x r := funext fun j => congrArg x (lift_row S.red r j)
  rw [hx]
  exact congrArg (fun z : EReal => Finset.univ.fold min z (row x r)) ofBits_inf

/-- A position below 1024, as a word, reads itself as an integer. -/
theorem toInt_pos {k : Nat} (h : k ≤ 1024) : (BitVec.ofNat 32 k).toInt = (k : Int) := by
  rw [BitVec.toInt_eq_toNat_of_lt (by rw [BitVec.toNat_ofNat]; omega), BitVec.toNat_ofNat, Nat.mod_eq_of_lt (by omega)]

/-- The least position at which a row reads its minimum, folded as words, is that of its first least entry. -/
theorem fold_minsi_first (e : Fin 1024 → EReal) (g : Fin 1024 → BitVec 32)
    (hg : ∀ j, g j = if e j = e (first e) then BitVec.ofNat 32 j.val else 1024#32) :
    Finset.univ.fold IKind.minsi.op 2147483647#32 g = BitVec.ofNat 32 (first e).val := by
  have hle : (first e).val ≤ 1024 := (first e).isLt.le
  have hval : ∀ j : Fin 1024, ((first e).val : Int) ≤ (g j).toInt := fun j => by
    rw [hg]
    split
    · rename_i h
      rw [toInt_pos j.isLt.le]
      by_contra hlt
      exact absurd h (ne_of_gt ((first_spec e).2 j (by omega)))
    · rw [toInt_pos (k := 1024) le_rfl]; omega
  have hfirst : (g (first e)).toInt = ((first e).val : Int) := by rw [hg, if_pos rfl, toInt_pos hle]
  apply BitVec.eq_of_toInt_eq
  rw [toInt_pos hle, ← Finset.fold_hom (op := IKind.minsi.op) (op' := min) (m := BitVec.toInt)
    fun a b => SortNet.toInt_minsi a b]
  refine le_antisymm ((Finset.fold_min_le _).mpr (Or.inr ⟨first e, Finset.mem_univ _, hfirst.le⟩)) ?_
  refine (Finset.le_fold_min _).mpr ⟨?_, fun j _ => hval j⟩
  have : (2147483647#32 : BitVec 32).toInt = 2147483647 := by decide
  rw [this]; omega

variable (io : IVec (Rows R) 32) (hio : ∀ r j, io (ix2 r j) = BitVec.ofNat 32 j.val)
include hio

/-- Row `r`'s index is that of its first least entry. -/
theorem idxCol_apply (x : FVec Ideal (Rows R) .f32) (r : Fin R) :
    idxCol S io x (ix2 r 0) = BitVec.ofNat 32 (first (row x r)).val := by
  refine (col_apply _ _ r).trans ((multiReductionI_eq_fold _ _ _ S.red _ _).trans ?_)
  rw [S.red.fold_filter_drop_single]
  refine fold_minsi_first (row x r) _ fun j => ?_
  show select _ _ _ (S.red.lift (ix1 r) j) = _
  rw [lift_row, select_apply, cmpf_apply, spread_apply, minCol_apply, hio]
  show Scalar.select (BitVec.ofBool (decide (row x r j = row x r (first (row x r))))) _ _ = _
  by_cases h : row x r j = row x r (first (row x r))
  · rw [if_pos h, decide_eq_true h]; rfl
  · rw [if_neg h, decide_eq_false h]; rfl

/-- The mask of a column of positions marks, in row `r`, the position that the column holds there. -/
theorem hitOf_apply (v : IVec (Col R) 32) (r : Fin R) (p : Fin 1024) (hv : v (ix2 r 0) = BitVec.ofNat 32 p.val)
    (j : Fin 1024) : hitOf S io v (ix2 r j) = if j = p then 1#1 else 0#1 := by
  show IntOp.cmpi .eq (io (ix2 r j)) (broadcastTo (Rows R) v S.bc (ix2 r j)) = _
  rw [spread_apply, hv, hio]
  show BitVec.ofBool (BitVec.ofNat 32 j.val == BitVec.ofNat 32 p.val) = _
  have hj := j.isLt
  have hp := p.isLt
  by_cases h : j = p
  · rw [if_pos h, h, beq_self_eq_true]; rfl
  · have hne : (BitVec.ofNat 32 j.val == BitVec.ofNat 32 p.val) = false := by
      rw [beq_eq_false_iff_ne]
      intro e
      have e' := congrArg BitVec.toInt e
      rw [toInt_pos hj.le, toInt_pos hp.le] at e'
      exact h (Fin.ext (by omega))
    rw [if_neg h, hne]; rfl

/-- After a round, row `r` is the row with its first least entry covered. -/
theorem row_roundOf (x : FVec Ideal (Rows R) .f32) (r : Fin R) : row (roundOf S io x) r = cover (row x r) := by
  funext j
  show select _ _ _ (ix2 r j) = _
  rw [select_apply, hitOf_apply S io hio _ r _ (idxCol_apply S io hio x r) j]
  unfold cover
  by_cases h : j = first (row x r)
  · rw [if_pos h, if_pos h]; exact ofBits_inf
  · rw [if_neg h, if_neg h]; rfl

/-- The mask as floats: one at the marked position and zero elsewhere. -/
theorem hot_apply (v : IVec (Col R) 32) (r : Fin R) (p : Fin 1024) (hv : v (ix2 r 0) = BitVec.ofNat 32 p.val)
    (j : Fin 1024) : (sitofp .f32 (extui 32 (hitOf S io v) (by decide)) : FVec Ideal (Rows R) .f32) (ix2 r j)
      = if j = p then (1 : EReal) else 0 := by
  rw [sitofp_apply, extui_apply, hitOf_apply S io hio v r p hv j]
  by_cases h : j = p
  · rw [if_pos h, if_pos h]
    show (((BitVec.setWidth 32 (1#1)).toInt : ℝ) : EReal) = 1
    rw [show (BitVec.setWidth 32 (1#1)).toInt = 1 by decide]; simp
  · rw [if_neg h, if_neg h]
    show (((BitVec.setWidth 32 (0#1)).toInt : ℝ) : EReal) = 0
    rw [show (BitVec.setWidth 32 (0#1)).toInt = 0 by decide]; simp

/-- The block after `k` rounds. -/
def roundsOf (x : FVec Ideal (Rows R) .f32) : Nat → FVec Ideal (Rows R) .f32
  | 0 => x
  | k + 1 => roundOf S io (roundsOf x k)

/-- After `k` rounds row `r` is the row after `k` rounds. -/
theorem row_roundsOf (x : FVec Ideal (Rows R) .f32) (r : Fin R) (k : Nat) :
    row (roundsOf S io x k) r = rest (row x r) k := by
  induction k with
  | zero => rfl
  | succ k ih =>
    show row (roundOf S io (roundsOf S io x k)) r = cover (rest (row x r) k)
    rw [row_roundOf S io hio, ih]

/-- The index that round `k` finds in row `r` is the `k`-th pick. -/
theorem idxCol_roundsOf (x : FVec Ideal (Rows R) .f32) (r : Fin R) (k : Nat) :
    idxCol S io (roundsOf S io x k) (ix2 r 0) = BitVec.ofNat 32 (pick (row x r) k).val := by
  rw [idxCol_apply S io hio, row_roundsOf S io hio]; rfl

/-- The minimum that round `k` finds in row `r` is the entry of the `k`-th pick. -/
theorem minCol_roundsOf (x : FVec Ideal (Rows R) .f32) (r : Fin R) {k : Nat} (hk : k < 1024) (hx : ∀ j, row x r j < ⊤) :
    minCol S (roundsOf S io x k) (ix2 r 0) = row x r (pick (row x r) k) := by
  rw [minCol_apply, row_roundsOf S io hio]
  exact rest_pick (row x r) hx hk

end Cert.Proof

end
-- ==== Proof.Search.lean ====
/- What the neighbour-search kernel leaves in its index block, from the blocks it reads: at row `r` and round `k`, the
   `k`-th pick (Select.lean) of row `r` of the block's distances. -/
module

public import proofs.«01_k».proof.Proof.Rounds
public import proofs.«01_k».proof.Proof.Gen.KernelIdeal.Frame
public import Idealize.ShloMosaic.Lib.Pipeline.Value

@[expose] public section

noncomputable section

namespace Cert.Proof

open Cert.KernelIdeal Cert.KernelIdeal.Gen Idealize.ShloMosaic Idealize.ShloMosaic.TcCoe Idealize.ShloMosaic.ValueIdx

/-- The shape facts of the search's rounds. -/
theorem shapes128 : RoundShapes 128 :=
  ⟨reduces_S128x1024_S128, shapeCasts_S128_S128x1, broadcasts_S128x1_S128x1024⟩

/-- The positions along a row, as the search writes them. -/
abbrev pos128 : IVec S128x1024 32 := iota .tc S128x1024 32 [1] iota_S128x1024_d1_w32

theorem pos128_apply (r : Fin 128) (j : Fin 1024) : pos128 (ix2 r j) = BitVec.ofNat 32 j.val :=
  iota_single_apply _ _ _ _ _ _

variable (D : FVec Ideal S128x1024 .f32)

/-- The index column of round `k`. -/
abbrev nth (k : Nat) : IVec S128x1 32 := idxCol shapes128 pos128 (roundsOf shapes128 pos128 D k)

/-- The block after `k` rounds. -/
abbrev after (k : Nat) : FVec Ideal S128x1024 .f32 := roundsOf shapes128 pos128 D k

/-- Round by round, what the kernel computes is `nth` and `after`. -/
theorem nth_1 : k1_pay11 D pos128 (nth D 0) = nth D 1 := rfl
theorem nth_2 : k1_pay15 D pos128 (nth D 0) = nth D 2 := rfl
theorem after_3 : k1_pay18 D pos128 (nth D 0) = after D 3 := rfl
theorem nth_3 : k1_pay19 D pos128 (nth D 0) = nth D 3 := rfl
theorem hit_3 : k1_pay20 D pos128 (nth D 0) = hitOf shapes128 pos128 (nth D 3) := rfl
theorem nth_4 : k1_pay24 pos128 (after D 3) (hitOf shapes128 pos128 (nth D 3)) (k1_pay22 (F := Ideal)) = nth D 4 := rfl
theorem nth_5 : k1_pay28 pos128 (after D 3) (hitOf shapes128 pos128 (nth D 3)) (k1_pay22 (F := Ideal)) = nth D 5 := rfl
theorem nth_6 : k1_pay32 pos128 (after D 3) (hitOf shapes128 pos128 (nth D 3)) (k1_pay22 (F := Ideal)) = nth D 6 := rfl
theorem after_7 : k1_pay35 pos128 (after D 3) (hitOf shapes128 pos128 (nth D 3)) (k1_pay22 (F := Ideal)) = after D 7 := rfl

theorem hit_7 : k1_pay37 pos128 (k1_pay36 pos128 (after D 3) (hitOf shapes128 pos128 (nth D 3)) (k1_pay22 (F := Ideal))) = nth D 7 := rfl
theorem nth_8 : k1_pay40 pos128 (after D 7) (k1_pay36 pos128 (after D 3) (hitOf shapes128 pos128 (nth D 3)) (k1_pay22 (F := Ideal)))
    = nth D 8 := rfl
theorem nth_9 : k1_pay42 pos128 (after D 7) (k1_pay36 pos128 (after D 3) (hitOf shapes128 pos128 (nth D 3)) (k1_pay22 (F := Ideal)))
    = nth D 9 := rfl

/-- Ten columns side by side, read at row `r` of column `k`. -/
theorem columns_apply (f : Fin 10 → (S128x1.Idx → BitVec 32))
    (h : Shape.Concatenates [S128x1, S128x1, S128x1, S128x1, S128x1, S128x1, S128x1, S128x1, S128x1, S128x1] S128x10 1)
    (r : Fin 128) (k : Fin 10) :
    concatenate S128x10 1 [⟨S128x1, f 0⟩, ⟨S128x1, f 1⟩, ⟨S128x1, f 2⟩, ⟨S128x1, f 3⟩, ⟨S128x1, f 4⟩, ⟨S128x1, f 5⟩,
      ⟨S128x1, f 6⟩, ⟨S128x1, f 7⟩, ⟨S128x1, f 8⟩, ⟨S128x1, f 9⟩] h (ix2 r k) = f k (ix2 r 0) :=
  concatenate_ofFn_unit_apply (t := S128x10) (s₁ := S128x1) 1 f h rfl rfl (ix2 r k) k rfl (ix2 r 0) fun b hb => by
    match b with
    | ⟨0, _⟩ => rfl
    | ⟨1, _⟩ => exact absurd rfl hb

theorem zero3 : (![0, 0, 0] : Fin 3 → Nat) = fun _ => 0 := funext fun a => by fin_cases a <;> rfl
theorem zero2 : (![0, 0] : Fin 2 → Nat) = fun _ => 0 := funext fun a => by fin_cases a <;> rfl

variable (x0 : Vec Ideal S1x128x256 .f32) (x1 : Vec Ideal S1x128x8 .f32) (x2 : Vec Ideal S1x1024x8 .f32)
  (x3 : Vec Ideal S1x8x1024 .f32) (x4 : Vec Ideal S1x128x1 .f32) (x5 : Vec Ideal S1x1x1024 .f32)
  (x6 : Vec Ideal S1x1024x256 .f32) (x7 : Vec Ideal S512x256 .f32) (x8 : Vec Ideal S1x256 .f32)

/-- What the kernel leaves in its index block is the ten index columns side by side. -/
theorem block_eq : out1_11 x0 x1 x2 x3 x4 x5 x6 x7 x8
    = shapeCast S1x128x10 (concatenate S128x10 1 [⟨S128x1, nth (k1_pay6 x1 x3 x4 x5) 0⟩, ⟨S128x1, nth (k1_pay6 x1 x3 x4 x5) 1⟩,
        ⟨S128x1, nth (k1_pay6 x1 x3 x4 x5) 2⟩, ⟨S128x1, nth (k1_pay6 x1 x3 x4 x5) 3⟩, ⟨S128x1, nth (k1_pay6 x1 x3 x4 x5) 4⟩,
        ⟨S128x1, nth (k1_pay6 x1 x3 x4 x5) 5⟩, ⟨S128x1, nth (k1_pay6 x1 x3 x4 x5) 6⟩, ⟨S128x1, nth (k1_pay6 x1 x3 x4 x5) 7⟩,
        ⟨S128x1, nth (k1_pay6 x1 x3 x4 x5) 8⟩, ⟨S128x1, nth (k1_pay6 x1 x3 x4 x5) 9⟩]
        concatenates_S128x1_S128x1_S128x1_S128x1_S128x1_S128x1_S128x1_S128x1_S128x1_S128x1_S128x10_d1)
      shapeCasts_S128x10_S1x128x10 := by
  have e : k1_pay6 (View.ld x1 r1_1) (View.ld x3 r1_3) (View.ld x4 r1_4) (View.ld x5 r1_5) = k1_pay6 x1 x3 x4 x5 := by
    rw [View.ld_unit_zero zero3, View.ld_unit_zero zero3, View.ld_unit_zero zero3, View.ld_unit_zero zero3]
  refine (View.canon_unit_zero (S := S1x128x10) zero3 _ _).trans ?_
  rw [← e]
  rfl

/-- At row `r` and round `k` the index block holds the `k`-th pick of row `r` of the block's distances. -/
theorem block_apply (r : Fin 128) (k : Fin 10) : out1_11 x0 x1 x2 x3 x4 x5 x6 x7 x8 (ix3 0 r k)
    = BitVec.ofNat 32 (pick (row (k1_pay6 x1 x3 x4 x5) r) k).val := by
  rw [block_eq]
  refine (shapeCast_addUnit_apply ![128, 10] _ _ (ix3 0 r k)).trans ?_
  have hj : (fun a : Fin 2 => (ix3 0 r k : S1x128x10.Idx) a.succ) = (ix2 r k : S128x10.Idx) := by
    funext a; match a with | ⟨0, _⟩ => rfl | ⟨1, _⟩ => rfl
  refine (congrArg _ hj).trans ((columns_apply (fun k => nth (k1_pay6 x1 x3 x4 x5) k) _ r k).trans ?_)
  exact idxCol_roundsOf shapes128 pos128 pos128_apply _ r k

end Cert.Proof

end
-- ==== Proof.Bias.lean ====
/- The first call of the kernel: `q · Wv + bv`, one batch member a grid point. Its array after the call is the same
   product over the whole batch, an entry at a time. -/
module

public import proofs.«01_k».proof.Proof.Search
public import Idealize.ShloMosaic.Lib.MatmulPlain
public import Idealize.ShloMosaic.Lib.ValueLayout
public import Idealize.ShloMosaic.Lib.Pipeline.ValueKit.Geometry

@[expose] public section

noncomputable section

namespace Cert.Proof

open Cert.KernelIdeal Cert.KernelIdeal.Gen
open Idealize.ShloMosaic Idealize.ShloMosaic.TcCoe Idealize.SL.Sem Idealize.ShloMosaic.ValueIdx

/-- The bias product's block at row `r`, channel `n`. -/
theorem k0_pay1_apply (v0 : Vec Ideal S1x1024x256 .f32) (v2 : Vec Ideal S256x256 .f32) (v6 : Vec Ideal S1x256 .f32)
    (r : Fin 1024) (n : Fin 256) :
    k0_pay1 v0 v2 v6 (ix3 0 r n) = (∑ k : Fin 256, v0 (ix3 0 r k) * v2 (ix2 k n)) + v6 (ix2 0 n) := by
  unfold k0_pay1
  refine (shapeCast_addUnit_apply ![1024, 256] _ _ (ix3 0 r n)).trans ?_
  have hj : (fun a : Fin 2 => (ix3 0 r n : S1x1024x256.Idx) a.succ) = (ix2 r n : S1024x256.Idx) := by
    funext a; match a with | ⟨0, _⟩ => rfl | ⟨1, _⟩ => rfl
  refine (congrArg _ hj).trans ?_
  refine congrArg₂ (· + ·) ((Ideal.matmul_plain_apply (M := 1024) (K := 256) (N := 256) none _ _ _ r n).trans ?_) ?_
  · refine (congrArg₂ (· + ·) ?_ (Finset.sum_congr rfl fun k _ => congrArg₂ (· * ·) ?_ rfl)).trans (zero_add _)
    · exact Ideal.ofBits_zero_f32
    · exact (shapeCast_dropUnit_apply ![1024, 256] v0 _ (ix2 r k)).trans (congrArg v0 (by
        funext a; match a with | ⟨0, _⟩ => rfl | ⟨1, _⟩ => rfl | ⟨2, _⟩ => rfl))
  · refine (broadcastTo_1b_ab_apply _ _ r n).trans ?_
    rw [shapeCast_self]

variable (V : (c : Dev nD) → (b : Ref sig .tc) → Buf (Elt Ideal) ((c : Thread nD τ).loc b)) (c : Dev nD)

/-- Which block each window of the first call takes at grid point `t`. -/
theorem idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch member that grid point `t` of the first call works on. -/
def memb0 (t : Fin cfg0.N) : Fin 4 := ⟨t.val, t.isLt⟩

theorem blk0_0 (t : Fin cfg0.N) (r : Fin 1024) (k : Fin 256) :
    iblk0 V c 0 t (ix3 0 r k : S1x1024x256.Idx) = V c main_arg0 (ix3 (memb0 t) r k : S4x1024x256.Idx) := by
  obtain ⟨e0, e1, e2, -⟩ := idx0 t
  show V c main_arg0 (((cfg0.win 0).blk t).view.emb (ix3 0 r k : S1x1024x256.Idx)) = _
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 256 + 1 * k.val = k.val; omega

theorem blk0_1 (t : Fin cfg0.N) : iblk0 V c 1 t = V c main_arg2 := by
  obtain ⟨-, -, -, e0, e1, -⟩ := idx0 t
  funext (j : S256x256.Idx)
  show V c main_arg2 (((cfg0.win 1).blk t).view.emb j) = _
  refine congrArg (V c main_arg2) (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem blk0_2 (t : Fin cfg0.N) : iblk0 V c 2 t = V c main_v7 := by
  obtain ⟨-, -, -, -, -, e0, e1, -⟩ := idx0 t
  funext (j : S1x256.Idx)
  show V c main_v7 (((cfg0.win 2).blk t).view.emb j) = _
  refine congrArg (V c main_v7) (funext fun a => Fin.ext ?_)
  match a with
  | ⟨0, _⟩ => show win0_2.index t (0 : Fin 2) * 1 + 1 * (j 0).val = (j 0).val; omega
  | ⟨1, _⟩ => show win0_2.index t (1 : Fin 2) * 256 + 1 * (j 1).val = (j 1).val; omega

/-- `q · W + b` over the whole batch, the bias given as one row. -/
def affine (q : Vec Ideal S4x1024x256 .f32) (W : Vec Ideal S256x256 .f32) (b : Vec Ideal S1x256 .f32) : Vec Ideal S4x1024x256 .f32 :=
  fun i => (∑ k : Fin 256, q (ix3 (i 0) (i 1) k) * W (ix2 k (i 2))) + b (ix2 0 (i 2))

/-- The first call leaves `q · Wv + bv` in its result array. -/
theorem bias_array : (dat0 V c).arrAt 3 cfg0.N = affine (V c main_arg0) (V c main_arg2) (V c main_v7) := by
  refine (dat0 V c).arrAt_eq_of_covers 3 _ (by decide +kernel) fun t hf (y : S1x1024x256.Idx) => ?_
  have hy : y = ix3 0 (y 1) (y 2) := by
    funext a; match a with | ⟨0, _⟩ => exact Subsingleton.elim (α := Fin 1) _ _ | ⟨1, _⟩ => rfl | ⟨2, _⟩ => rfl
  show (dat0 V c).after 3 t y = _
  rw [after0_3]
  have he : ((cfg0.win 3).blk t).view.emb y = (ix3 (memb0 t) (y 1) (y 2) : S4x1024x256.Idx) := by
    obtain ⟨-, -, -, -, -, -, -, e0, e1, e2⟩ := idx0 t
    rw [hy]
    refine funext fun a => Fin.ext ?_
    match a with
    | ⟨0, _⟩ => show win0_3.index t (0 : Fin 3) * 1 + 1 * 0 = t.val; omega
    | ⟨1, _⟩ => show win0_3.index t (1 : Fin 3) * 1024 + 1 * (y 1).val = (y 1).val; omega
    | ⟨2, _⟩ => show win0_3.index t (2 : Fin 3) * 256 + 1 * (y 2).val = (y 2).val; omega
  refine Eq.trans ?_ (congrArg (affine (V c main_arg0) (V c main_arg2) (V c main_v7)) he.symm)
  have ho : out0_3 (iblk0 V c 0 t) (iblk0 V c 1 t) (iblk0 V c 2 t) = k0_pay1 (iblk0 V c 0 t) (iblk0 V c 1 t) (iblk0 V c 2 t) := by
    unfold out0_3
    rw [View.ld_unit_zero zero3, View.ld_unit_zero zero2, View.ld_unit_zero zero2]
    exact View.canon_unit_zero (S := S1x1024x256) zero3 _ _
  rw [ho, hy]
  refine (k0_pay1_apply _ _ _ (y 1) (y 2)).trans ?_
  refine congrArg₂ (· + ·) (Finset.sum_congr rfl fun k _ => congrArg₂ (· * ·) (blk0_0 V c t (y 1) k) ?_) ?_
  · exact congrFun (blk0_1 V c t) _
  · exact congrFun (blk0_2 V c t) _

end Cert.Proof

end
-- ==== Proof.Host.lean ====
/- The operations on the host between the kernel's second and third call: the messages over the neighbours found, the
   shifted positions and their distances. Given the first call's product and the second call's indices as the reference
   has them, each stretch leaves what the reference computes. -/
module

public import proofs.«01_k».proof.Proof.Bias
public import proofs.«01_k».proof.Proof.Gen.ReferenceIdeal.Run
public import proofs.«01_k».proof.Proof.Gen.ReferenceIdeal.Read

@[expose] public section

noncomputable section

namespace Cert.Proof

open Cert.KernelIdeal Cert.KernelIdeal.Gen
open Idealize.ShloMosaic Idealize.ShloMosaic.TcCoe Idealize.SL.Sem Idealize.ShloMosaic.ValueIdx

/-- Joining the batch member's number and the neighbour's number into one index pair, as the reference names it. -/
theorem pair_eq : (fun (a b : (⟨S4x1024x10x1, .i32⟩ : BufTy).Contents (Elt Ideal)) => concatenate S4x1024x10x2 3
      [⟨S4x1024x10x1, a⟩, ⟨S4x1024x10x1, b⟩] concatenates_S4x1024x10x1_S4x1024x10x1_S4x1024x10x2_d3)
    = ReferenceIdeal.Value.fn_main_v34 (F := Ideal) := rfl

/-- Joining the gathered and the own features along the channels, as the reference names it. -/
theorem join_eq : (fun (a b : (⟨S4x1024x10x256, .f32⟩ : BufTy).Contents (Elt Ideal)) => concatenate S4x1024x10x512 3
      [⟨S4x1024x10x256, a⟩, ⟨S4x1024x10x256, b⟩] concatenates_S4x1024x10x256_S4x1024x10x256_S4x1024x10x512_d3)
    = ReferenceIdeal.Value.fn_main_v38 (F := Ideal) := rfl

namespace Host1

variable (V : Valuation τ sig (Elt Ideal))
  (x0 : Vec Ideal S4x1024x256 .f32) (x1 : Vec Ideal S4x1024x3 .f32) (x2 : Vec Ideal S256x256 .f32) (x3 : Vec Ideal S256 .f32)
  (x4 : Vec Ideal S512x256 .f32) (x5 : Vec Ideal S256 .f32)

set_option maxRecDepth 8192 in
set_option maxHeartbeats 4000000 in
/-- The messages before normalisation. -/
theorem v34_eq (h0 : V (Proc.devRef .tc main_arg0) = x0) (h4 : V (Proc.devRef .tc main_arg4) = x4)
    (h5 : V (Proc.devRef .tc main_arg5) = x5)
    (h8 : V (Proc.devRef .tc main_v8) = ReferenceIdeal.Read.val_main_v20 x0 x2 x3)
    (hi : V (Proc.devRef .tc main_v10_2) = ReferenceIdeal.Read.val_main_indices x1) :
    StableHlo.after hostOps2 V (Proc.devRef .tc main_v34) = ReferenceIdeal.Read.val_main_v42 x0 x1 x2 x3 x4 x5 := by
  simp only [hostOps2, pair_eq, join_eq]
  after_results_simp
  rw [h0, h4, h5, h8, hi]
  rfl

set_option maxRecDepth 8192 in
set_option maxHeartbeats 4000000 in
/-- Their mean over the channels. -/
theorem v38_eq (h0 : V (Proc.devRef .tc main_arg0) = x0) (h4 : V (Proc.devRef .tc main_arg4) = x4)
    (h5 : V (Proc.devRef .tc main_arg5) = x5)
    (h8 : V (Proc.devRef .tc main_v8) = ReferenceIdeal.Read.val_main_v20 x0 x2 x3)
    (hi : V (Proc.devRef .tc main_v10_2) = ReferenceIdeal.Read.val_main_indices x1) :
    StableHlo.after hostOps2 V (Proc.devRef .tc main_v38) = ReferenceIdeal.Read.val_main_v46 x0 x1 x2 x3 x4 x5 := by
  simp only [hostOps2, pair_eq, join_eq]
  after_results_simp
  rw [h0, h4, h5, h8, hi]
  rfl

set_option maxRecDepth 8192 in
set_option maxHeartbeats 4000000 in
/-- The batch members' numbers. -/
theorem v12_eq : StableHlo.after hostOps2 V (Proc.devRef .tc main_v12) = ReferenceIdeal.Read.val_main_v16 := by
  simp only [hostOps2, pair_eq, join_eq]
  after_results_simp
  rfl

set_option maxRecDepth 8192 in
set_option maxHeartbeats 4000000 in
/-- The variance's correction, zero. -/
theorem c7_eq : StableHlo.after hostOps2 V (Proc.devRef .tc main_c_7) = constantI S_ 32 0#32 := by
  simp only [hostOps2, pair_eq, join_eq]
  after_results_simp

set_option maxRecDepth 8192 in
set_option maxHeartbeats 4000000 in
/-- The variance over the channels. -/
theorem v39_eq (h34 : V (Proc.devRef .tc main_v34) = ReferenceIdeal.Read.val_main_v42 x0 x1 x2 x3 x4 x5)
    (h7 : V (Proc.devRef .tc main_c_7) = constantI S_ 32 0#32) :
    StableHlo.after hostOps2_1 V (Proc.devRef .tc main_v39) = ReferenceIdeal.Read.val_main_v47 x0 x1 x2 x3 x4 x5 := by
  simp only [hostOps2_1]
  after_results_simp
  rw [h34, h7]
  rfl

variable (x6 x7 : Vec Ideal S256 .f32) (x8 : Vec Ideal S256x3 .f32)

set_option maxRecDepth 8192 in
set_option maxHeartbeats 4000000 in
/-- The squared distances between the shifted positions and all the positions. -/
theorem v100_eq (h1 : V (Proc.devRef .tc main_arg1) = x1) (h6 : V (Proc.devRef .tc main_arg6) = x6)
    (h7 : V (Proc.devRef .tc main_arg7) = x7) (h8 : V (Proc.devRef .tc main_arg8) = x8)
    (hi : V (Proc.devRef .tc main_v10_2) = ReferenceIdeal.Read.val_main_indices x1)
    (h12 : V (Proc.devRef .tc main_v12) = ReferenceIdeal.Read.val_main_v16)
    (h34 : V (Proc.devRef .tc main_v34) = ReferenceIdeal.Read.val_main_v42 x0 x1 x2 x3 x4 x5)
    (h38 : V (Proc.devRef .tc main_v38) = ReferenceIdeal.Read.val_main_v46 x0 x1 x2 x3 x4 x5)
    (h39 : V (Proc.devRef .tc main_v39) = ReferenceIdeal.Read.val_main_v47 x0 x1 x2 x3 x4 x5) :
    StableHlo.after hostOps2_2 V (Proc.devRef .tc main_v100)
      = ReferenceIdeal.Read.val_main_v108 x0 x1 x2 x3 x4 x5 x6 x7 x8 := by
  simp only [hostOps2_2, pair_eq]
  after_results_simp
  rw [h1, h6, h7, h8, hi, h12, h34, h38, h39]
  rfl

end Host1

end Cert.Proof

end
-- ==== Proof.Nearest.lean ====
/- The second call of the kernel: every point's ten nearest points. At a grid point the block of squared distances is the
   reference's, the padding of the positions adding zeros; so the index array is the reference's `top_k` of the negated
   distances, as long as the distances stay below `⊤`. -/
module

public import proofs.«01_k».proof.Proof.Select
public import proofs.«01_k».proof.Proof.Host

@[expose] public section

noncomputable section

namespace Cert.Proof

open Cert.KernelIdeal Cert.KernelIdeal.Gen
open Idealize.ShloMosaic Idealize.ShloMosaic.TcCoe Idealize.SL.Sem Idealize.ShloMosaic.ValueIdx
open Cert.ReferenceIdeal.Read

/-- One column spread over the lanes, read at row `r`. -/
theorem spreadCol_apply {A B : ℕ} (hB : B ≠ 1) {α : Type} (v : (⟨2, ![A, 1]⟩ : Shape).Idx → α)
    (h : (⟨2, ![A, 1]⟩ : Shape).Broadcasts ⟨2, ![A, B]⟩) (r : Fin A) (j : Fin B) :
    broadcastTo ⟨2, ![A, B]⟩ v h (ix2 r j) = v (ix2 r 0) := by
  refine broadcastTo_apply v h (ix2 r j) (ix2 r 0) fun a => ?_
  match a with
  | ⟨0, _⟩ =>
    show r.val = if A = 1 then 0 else r.val
    split
    · rename_i h1; have := r.isLt; omega
    · rfl
  | ⟨1, _⟩ => rfl

/-- The block of squared distances at row `r`, point `j`. -/
theorem dist_apply (v2 : Vec Ideal S1x128x8 .f32) (v6 : Vec Ideal S1x8x1024 .f32) (v8 : Vec Ideal S1x128x1 .f32)
    (v10 : Vec Ideal S1x1x1024 .f32) (r : Fin 128) (j : Fin 1024) :
    k1_pay6 v2 v6 v8 v10 (ix2 r j)
      = Ideal.ofBits .f32 0xC0000000#32 * (∑ k : Fin 8, v2 (ix3 0 r k) * v6 (ix3 0 k j)) + v8 (ix3 0 r 0) + v10 (ix3 0 0 j) := by
  unfold k1_pay6
  refine congrArg₂ (· + ·) (congrArg₂ (· + ·) (congrArg₂ (· * ·) rfl ?_) ?_) ?_
  · refine (Ideal.matmul_plain_apply (M := 128) (K := 8) (N := 1024) none _ _ _ r j).trans ?_
    refine (congrArg₂ (· + ·) ?_ (Finset.sum_congr rfl fun k _ => congrArg₂ (· * ·) ?_ ?_)).trans (zero_add _)
    · exact Ideal.ofBits_zero_f32
    · exact shapeCast_1ab_ab_apply v2 _ r k
    · exact shapeCast_1ab_ab_apply v6 _ k j
  · exact (spreadCol_apply (by decide) _ _ r j).trans (shapeCast_1ab_ab_apply v8 _ r 0)
  · exact (broadcastTo_1b_ab_apply _ _ r j).trans (shapeCast_1ab_ab_apply v10 _ 0 j)

variable (V : (c : Dev nD) → (b : Ref sig .tc) → Buf (Elt Ideal) ((c : Thread nD τ).loc b)) (c : Dev nD)

/-- Which block each window of the second call takes at grid point `t`. -/
theorem idx1 : ∀ t : Fin cfg1.N,
    (win1_1.index t (0 : Fin 3) = t.val / 8 ∧ win1_1.index t (1 : Fin 3) = t.val % 8 ∧ win1_1.index t (2 : Fin 3) = 0)
    ∧ (win1_3.index t (0 : Fin 3) = t.val / 8 ∧ win1_3.index t (1 : Fin 3) = 0 ∧ win1_3.index t (2 : Fin 3) = 0)
    ∧ (win1_4.index t (0 : Fin 3) = t.val / 8 ∧ win1_4.index t (1 : Fin 3) = t.val % 8 ∧ win1_4.index t (2 : Fin 3) = 0)
    ∧ (win1_5.index t (0 : Fin 3) = t.val / 8 ∧ win1_5.index t (1 : Fin 3) = 0 ∧ win1_5.index t (2 : Fin 3) = 0)
    ∧ (win1_11.index t (0 : Fin 3) = t.val / 8 ∧ win1_11.index t (1 : Fin 3) = t.val % 8 ∧ win1_11.index t (2 : Fin 3) = 0) :=
  (by decide +kernel : ∀ t : Fin grid1.N, _)

/-- The batch member of grid point `t` of a four by eight grid. -/
def memb (t : Fin 32) : Fin 4 := ⟨t.val / 8, by omega⟩
/-- Row `r` of the tile of grid point `t`, among all the rows. -/
def place (t : Fin 32) (r : Fin 128) : Fin 1024 := ⟨t.val % 8 * 128 + r.val, by omega⟩

theorem blk1_1 (t : Fin cfg1.N) (r : Fin 128) (k : Fin 8) :
    iblk1 V c 1 t (ix3 0 r k : S1x128x8.Idx) = V c main_v1 (ix3 (memb t) (place t r) k : S4x1024x8.Idx) := by
  obtain ⟨⟨e0, e1, e2⟩, -⟩ := idx1 t
  show V c main_v1 (((cfg1.win 1).blk t).view.emb (ix3 0 r k : S1x128x8.Idx)) = _
  refine congrArg (V c main_v1) (funext fun a => Fin.ext ?_)
  match a with
  | ⟨0, _⟩ => show win1_1.index t (0 : Fin 3) * 1 + 1 * 0 = t.val / 8; omega
  | ⟨1, _⟩ => show win1_1.index t (1 : Fin 3) * 128 + 1 * r.val = t.val % 8 * 128 + r.val; omega
  | ⟨2, _⟩ => show win1_1.index t (2 : Fin 3) * 8 + 1 * k.val = k.val; omega

theorem blk1_3 (t : Fin cfg1.N) (k : Fin 8) (j : Fin 1024) :
    iblk1 V c 3 t (ix3 0 k j : S1x8x1024.Idx) = V c main_v2 (ix3 (memb t) k j : S4x8x1024.Idx) := by
  obtain ⟨-, ⟨e0, e1, e2⟩, -⟩ := idx1 t
  show V c main_v2 (((cfg1.win 3).blk t).view.emb (ix3 0 k j : S1x8x1024.Idx)) = _
  refine congrArg (V c main_v2) (funext fun a => Fin.ext ?_)
  match a with
  | ⟨0, _⟩ => show win1_3.index t (0 : Fin 3) * 1 + 1 * 0 = t.val / 8; omega
  | ⟨1, _⟩ => show win1_3.index t (1 : Fin 3) * 8 + 1 * k.val = k.val; omega
  | ⟨2, _⟩ => show win1_3.index t (2 : Fin 3) * 1024 + 1 * j.val = j.val; omega

theorem blk1_4 (t : Fin cfg1.N) (r : Fin 128) :
    iblk1 V c 4 t (ix3 0 r 0 : S1x128x1.Idx) = V c main_v5 (ix3 (memb t) (place t r) 0 : S4x1024x1.Idx) := by
  obtain ⟨-, -, ⟨e0, e1, e2⟩, -⟩ := idx1 t
  show V c main_v5 (((cfg1.win 4).blk t).view.emb (ix3 0 r 0 : S1x128x1.Idx)) = _
  refine congrArg (V c main_v5) (funext fun a => Fin.ext ?_)
  match a with
  | ⟨0, _⟩ => show win1_4.index t (0 : Fin 3) * 1 + 1 * 0 = t.val / 8; omega
  | ⟨1, _⟩ => show win1_4.index t (1 : Fin 3) * 128 + 1 * r.val = t.val % 8 * 128 + r.val; omega
  | ⟨2, _⟩ => show win1_4.index t (2 : Fin 3) * 1 + 1 * 0 = 0; omega

theorem blk1_5 (t : Fin cfg1.N) (j : Fin 1024) :
    iblk1 V c 5 t (ix3 0 0 j : S1x1x1024.Idx) = V c main_v6 (ix3 (memb t) 0 j : S4x1x1024.Idx) := by
  obtain ⟨-, -, -, ⟨e0, e1, e2⟩, -⟩ := idx1 t
  show V c main_v6 (((cfg1.win 5).blk t).view.emb (ix3 0 0 j : S1x1x1024.Idx)) = _
  refine congrArg (V c main_v6) (funext fun a => Fin.ext ?_)
  match a with
  | ⟨0, _⟩ => show win1_5.index t (0 : Fin 3) * 1 + 1 * 0 = t.val / 8; omega
  | ⟨1, _⟩ => show win1_5.index t (1 : Fin 3) * 1 + 1 * 0 = 0; omega
  | ⟨2, _⟩ => show win1_5.index t (2 : Fin 3) * 1024 + 1 * j.val = j.val; omega

/-- The reference's squared distance between points `r` and `j` of batch member `b`. -/
theorem ref_dist (x1 : Vec Ideal S4x1024x3 .f32) (b : Fin 4) (r j : Fin 1024) :
    val_main_v13 (F := Ideal) x1 (ix3 b r j)
      = Ideal.ofBits .f32 0xC0000000#32 * (∑ k : Fin 3, x1 (ix3 b r k) * x1 (ix3 b j k))
        + (∑ k : Fin 3, x1 (ix3 b r k) * x1 (ix3 b r k)) + ∑ k : Fin 3, x1 (ix3 b j k) * x1 (ix3 b j k) := by
  rw [val_main_v13_apply, val_main_v8_apply, val_main_v3_apply, val_main_v2_apply, val_main_v1_apply, val_main_v7_apply,
    val_main_v6_apply, val_main_v5_apply, val_main_v12_apply, val_main_v11_apply, val_main_v10_apply]
  refine congrArg₂ (· + ·) (congrArg₂ (· + ·) (congrArg₂ (· * ·) rfl (Finset.sum_congr rfl fun k _ => ?_)) ?_) ?_
  · rw [val_main_v0_apply]
    exact congrArg₂ (· * ·) (congrArg x1 (by funext a; match a with | ⟨0, _⟩ => rfl | ⟨1, _⟩ => rfl | ⟨2, _⟩ => rfl))
      (congrArg x1 (by funext a; match a with | ⟨0, _⟩ => rfl | ⟨1, _⟩ => rfl | ⟨2, _⟩ => rfl))
  · refine (congrArg₂ (· + ·) Ideal.ofBits_zero_f32 (Finset.sum_congr rfl fun k _ => ?_)).trans (zero_add _)
    have e : idx_main_v5 (idx_main_v6 (idx_main_v7 (ix3 b r j))) k = ix3 b r k := by
      funext a; match a with | ⟨0, _⟩ => rfl | ⟨1, _⟩ => rfl | ⟨2, _⟩ => rfl
    rw [e]; rfl
  · refine (congrArg₂ (· + ·) Ideal.ofBits_zero_f32 (Finset.sum_congr rfl fun k _ => ?_)).trans (zero_add _)
    have e : idx_main_v10 (idx_main_v11 (idx_main_v12 (ix3 b r j))) k = ix3 b j k := by
      funext a; match a with | ⟨0, _⟩ => rfl | ⟨1, _⟩ => rfl | ⟨2, _⟩ => rfl
    rw [e]; rfl

/-- Five zero terms more don't change an inner product. -/
theorem padded_sum (a b : Fin 3 → EReal) :
    ∑ k : Fin 8, (if h : k.val < 3 then a ⟨k.val, h⟩ else 0) * (if h : k.val < 3 then b ⟨k.val, h⟩ else 0) = ∑ k, a k * b k := by
  rw [Fin.sum_univ_eight, Fin.sum_univ_three]
  simp

/-- What the second call is given: the positions padded to eight coordinates with zeros, their transpose, and the
    squared lengths as a column and as a row. -/
structure Given (x1 : Vec Ideal S4x1024x3 .f32) : Prop where
  pad : ∀ b r k, V c main_v1 (ix3 b r k : S4x1024x8.Idx) = if h : k.val < 3 then x1 (ix3 b r ⟨k.val, h⟩) else 0
  turn : ∀ b k j, V c main_v2 (ix3 b k j : S4x8x1024.Idx) = V c main_v1 (ix3 b j k : S4x1024x8.Idx)
  col : ∀ b r, V c main_v5 (ix3 b r 0 : S4x1024x1.Idx) = ∑ k : Fin 3, x1 (ix3 b r k) * x1 (ix3 b r k)
  lane : ∀ b j, V c main_v6 (ix3 b 0 j : S4x1x1024.Idx) = ∑ k : Fin 3, x1 (ix3 b j k) * x1 (ix3 b j k)

/-- Each row of the distance block at grid point `t` is a row of the reference's distances. -/
theorem dist_row {x1 : Vec Ideal S4x1024x3 .f32} (hg : Given V c x1) (t : Fin cfg1.N) (r : Fin 128) :
    row (k1_pay6 (iblk1 V c 1 t) (iblk1 V c 3 t) (iblk1 V c 4 t) (iblk1 V c 5 t)) r
      = fun j => val_main_v13 (F := Ideal) x1 (ix3 (memb t) (place t r) j) := by
  funext j
  refine (dist_apply _ _ _ _ r j).trans (Eq.trans ?_ (ref_dist x1 (memb t) (place t r) j).symm)
  refine congrArg₂ (· + ·) (congrArg₂ (· + ·) (congrArg₂ (· * ·) rfl ?_) ?_) ?_
  · refine (Finset.sum_congr rfl fun k _ => congrArg₂ (fun a b : EReal => a * b)
      ((blk1_1 V c t r k).trans (hg.pad _ _ k)) ((blk1_3 V c t k j).trans ((hg.turn _ k j).trans (hg.pad _ _ k)))).trans ?_
    exact padded_sum (fun k => x1 (ix3 (memb t) (place t r) k)) fun k => x1 (ix3 (memb t) j k)
  · exact (blk1_4 V c t r).trans (hg.col _ _)
  · exact (blk1_5 V c t j).trans (hg.lane _ _)

/-- The second call leaves the reference's ten nearest points in its index array. -/
theorem index_array {x1 : Vec Ideal S4x1024x3 .f32} (hg : Given V c x1)
    (hd : ∀ b r j, val_main_v13 (F := Ideal) x1 (ix3 b r j) < ⊤) :
    (dat1 V c).arrAt 11 cfg1.N = val_main_indices (F := Ideal) x1 := by
  refine (dat1 V c).arrAt_eq_of_covers 11 _ (by decide +kernel) fun t hf (y : S1x128x10.Idx) => ?_
  have hy : y = ix3 0 (y 1) (y 2) := by
    funext a; match a with | ⟨0, _⟩ => exact Subsingleton.elim (α := Fin 1) _ _ | ⟨1, _⟩ => rfl | ⟨2, _⟩ => rfl
  show (dat1 V c).after 11 t y = _
  rw [after1_11]
  have he : ((cfg1.win 11).blk t).view.emb y = (ix3 (memb t) (place t (y 1)) (y 2) : S4x1024x10.Idx) := by
    obtain ⟨-, -, -, -, e0, e1, e2⟩ := idx1 t
    rw [hy]
    refine funext fun a => Fin.ext ?_
    match a with
    | ⟨0, _⟩ => show win1_11.index t (0 : Fin 3) * 1 + 1 * 0 = t.val / 8; omega
    | ⟨1, _⟩ => show win1_11.index t (1 : Fin 3) * 128 + 1 * (y 1).val = t.val % 8 * 128 + (y 1).val; omega
    | ⟨2, _⟩ => show win1_11.index t (2 : Fin 3) * 10 + 1 * (y 2).val = (y 2).val; omega
  refine Eq.trans ?_ (congrArg (val_main_indices (F := Ideal) x1) he.symm)
  rw [hy]
  refine (block_apply _ _ _ _ _ _ _ _ _ (y 1) (y 2)).trans ?_
  rw [dist_row V c hg t (y 1)]
  exact (topK_index (by decide) (val_main_v14 (F := Ideal) x1) _ (memb t) (place t (y 1)) (y 2) _ (hd _ _) fun i => rfl).symm

end Cert.Proof

end
-- ==== Proof.Finite.lean ====
/- Every number the distances are made of is real. The positions are real by the precondition; the shifts are a tanh, which
   is always real, times half the extent of a point's ten neighbours. So no distance is `⊤`. -/
module

public import proofs.«01_k».proof.Proof.Nearest

@[expose] public section

noncomputable section

namespace Cert.Proof

open Cert.ReferenceIdeal Cert.ReferenceIdeal.Gen
open Idealize.ShloMosaic Idealize.ShloMosaic.TcCoe Idealize.SL.Sem Idealize.ShloMosaic.ValueIdx
open Cert.ReferenceIdeal.Read

/-- `x` is a real number: neither `⊤` nor `⊥`. -/
def IsReal (x : EReal) : Prop := ∃ r : ℝ, x = r

namespace IsReal

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem zero : IsReal 0 := ⟨0, rfl⟩

theorem sum {n : ℕ} (f : Fin n → EReal) (h : ∀ k, IsReal (f k)) : IsReal (∑ k, f k) :=
  Finset.sum_induction f IsReal (fun _ _ => add) zero fun k _ => h k

theorem lt_top {x : EReal} (hx : IsReal x) : x < ⊤ := by
  obtain ⟨a, rfl⟩ := hx; exact EReal.coe_lt_top a

/-- The hyperbolic tangent is real everywhere: `-1` and `1` at the infinities. -/
theorem tanh (x : EReal) : IsReal (Ideal.tanh x) := by
  induction x with
  | bot => exact ⟨-1, rfl⟩
  | top => exact ⟨1, rfl⟩
  | coe a => exact ⟨Real.tanh a, rfl⟩

/-- A number whose absolute value is below `⊤` is real. -/
theorem of_abs {x : EReal} (h : max x (-x) < ⊤) : IsReal x := by
  induction x with
  | bot => simp at h
  | top => simp at h
  | coe a => exact ⟨a, rfl⟩

/-- The largest of some reals, from `⊥` on. -/
theorem fold_max {n : ℕ} (hn : 0 < n) (f : Fin n → EReal) (h : ∀ k, IsReal (f k)) :
    IsReal ((Finset.univ : Finset (Fin n)).fold max ⊥ f) := by
  have hne : (Finset.univ : Finset (Fin n)).Nonempty := ⟨⟨0, hn⟩, Finset.mem_univ _⟩
  have hs : (Finset.univ : Finset (Fin n)).fold max ⊥ f = Finset.univ.sup f := rfl
  obtain ⟨k, -, hk⟩ := Finset.exists_mem_eq_sup _ hne f
  rw [hs, hk]; exact h k

/-- The smallest of some reals, from `⊤` on. -/
theorem fold_min {n : ℕ} (hn : 0 < n) (f : Fin n → EReal) (h : ∀ k, IsReal (f k)) :
    IsReal ((Finset.univ : Finset (Fin n)).fold min ⊤ f) := by
  have hne : (Finset.univ : Finset (Fin n)).Nonempty := ⟨⟨0, hn⟩, Finset.mem_univ _⟩
  have hs : (Finset.univ : Finset (Fin n)).fold min ⊤ f = Finset.univ.inf f := rfl
  obtain ⟨k, -, hk⟩ := Finset.exists_mem_eq_inf _ hne f
  rw [hs, hk]; exact h k

end IsReal

theorem real_two : IsReal (Ideal.ofBits .f32 0xC0000000#32) := by
  simp only [Ideal.ofBits, Ideal.ieee]
  exact IsReal.mul ⟨_, rfl⟩ ⟨_, rfl⟩
theorem real_half : IsReal (Ideal.ofBits .f32 0x3F000000#32) := by
  simp only [Ideal.ofBits, Ideal.ieee]
  exact ⟨_, rfl⟩
theorem real_zero : IsReal (Ideal.ofBits .f32 0x00000000#32) := by rw [Ideal.ofBits_zero_f32]; exact .zero
theorem bits_bot : Ideal.ofBits .f32 0xFF800000#32 = ⊥ := by simp [Ideal.ofBits, Ideal.ieee]

variable (x0 : Vec Ideal S4x1024x256 .f32) (x1 : Vec Ideal S4x1024x3 .f32) (x2 : Vec Ideal S256x256 .f32)
  (x3 : Vec Ideal S256 .f32) (x4 : Vec Ideal S512x256 .f32) (x5 x6 x7 : Vec Ideal S256 .f32) (x8 : Vec Ideal S256x3 .f32)

section Positions

variable {x1} (h1 : ∀ i, IsReal (x1 i))
include h1

theorem real_v13 (b : Fin 4) (r j : Fin 1024) : IsReal (val_main_v13 (F := Ideal) x1 (ix3 b r j)) := by
  rw [ref_dist]
  exact ((real_two.mul (.sum _ fun k => (h1 _).mul (h1 _))).add (.sum _ fun k => (h1 _).mul (h1 _))).add
    (.sum _ fun k => (h1 _).mul (h1 _))

theorem real_v84 (i : S4x1024x10x3.Idx) : IsReal (val_main_v84 (F := Ideal) x1 i) := h1 _

theorem real_v85 (i : S4x1024x3.Idx) : IsReal (val_main_v85 (F := Ideal) x1 i) := by
  have e := Host.reduce_eq_fold_single (FloatOps.maximumf (F := Ideal) (φ := .f32)) (val_main_v84 (F := Ideal) x1)
    (val_main_cst_15 (F := Ideal)) reducesTo_S4x1024x10x3_S4x1024x3_d2 (by decide) h_S_ i
  refine (congrArg IsReal e).mpr ?_
  refine (congrArg (fun z => IsReal ((Finset.univ : Finset (Fin 10)).fold max z _)) bits_bot).mpr ?_
  exact IsReal.fold_max (by decide) _ fun k => real_v84 h1 _

theorem real_v86 (i : S4x1024x3.Idx) : IsReal (val_main_v86 (F := Ideal) x1 i) := by
  have e := Host.reduce_eq_fold_single (FloatOps.minimumf (F := Ideal) (φ := .f32)) (val_main_v84 (F := Ideal) x1)
    (val_main_cst_16 (F := Ideal)) reducesTo_S4x1024x10x3_S4x1024x3_d2 (by decide) h_S_ i
  refine (congrArg IsReal e).mpr ?_
  refine (congrArg (fun z => IsReal ((Finset.univ : Finset (Fin 10)).fold min z _)) ofBits_inf).mpr ?_
  exact IsReal.fold_min (by decide) _ fun k => real_v84 h1 _

/-- The shifted positions are real. -/
theorem real_v93 (i : S4x1024x10x3.Idx) : IsReal (val_main_v93 (F := Ideal) x0 x1 x2 x3 x4 x5 x6 x7 x8 i) := by
  rw [val_main_v93_apply, val_main_v92_apply, val_main_v69_apply, val_main_v91_apply, val_main_v90_apply, val_main_v88_apply,
    val_main_v87_apply, val_main_v89_apply, val_main_cst_17_apply]
  exact (real_v84 h1 i).add ((IsReal.tanh _).mul (((real_v85 h1 _).sub (real_v86 h1 _)).mul real_half))

/-- The distances from the shifted positions to the points are real. -/
theorem real_v108 (i : S4x10240x1024.Idx) : IsReal (val_main_v108 (F := Ideal) x0 x1 x2 x3 x4 x5 x6 x7 x8 i) := by
  have h94 : ∀ j, IsReal (val_main_v94 (F := Ideal) x0 x1 x2 x3 x4 x5 x6 x7 x8 j) := fun j => by
    rw [val_main_v94_apply]; exact real_v93 x0 x2 x3 x4 x5 x6 x7 x8 h1 _
  rw [val_main_v108_apply, val_main_v103_apply, val_main_v98_apply, val_main_v97_apply, val_main_v96_apply,
    val_main_v102_apply, val_main_v101_apply, val_main_v100_apply, val_main_v107_apply, val_main_v106_apply, val_main_v105_apply]
  refine ((real_two.mul (.sum _ fun k => (h94 _).mul ?_)).add (real_zero.add (.sum _ fun k => ?_))).add
    (real_zero.add (.sum _ fun k => ?_))
  · rw [val_main_v95_apply]; exact h1 _
  · exact (h94 _).mul (h94 _)
  · exact (h1 _).mul (h1 _)

end Positions

end Cert.Proof

end
-- ==== Proof.Answer.lean ====
/- One entry of the result in plain terms: the features of a shifted point's three nearest points mixed by inverse distance,
   less the point's own, beside the point's own; through the last layer; and the largest over the ten neighbours. -/
module

public import proofs.«01_k».proof.Proof.Finite

@[expose] public section

noncomputable section

namespace Cert.Proof

open Idealize.ShloMosaic Idealize.ShloMosaic.TcCoe Idealize.ShloMosaic.ValueIdx

variable (d : Fin 1024 → EReal)

/-- The inverse of the `k`-th least distance, off zero by the small constant. -/
def recip (k : ℕ) : EReal := Ideal.div (Ideal.ofBits .f32 0x3F800000#32) (d (pick d k) + Ideal.ofBits .f32 0x322BCC77#32)

/-- The sum of the three inverses. -/
def total : EReal := recip d 0 + recip d 1 + recip d 2

/-- What the `k`-th nearest point adds to the mix of `f`. -/
def share (f : Fin 1024 → EReal) (k : ℕ) : EReal := f (pick d k) * Ideal.div (recip d k) (total d)

/-- The three nearest points' values of `f`, mixed by inverse distance. -/
def mix (f : Fin 1024 → EReal) : EReal := share d f 0 + share d f 1 + share d f 2

variable (q : Fin 1024 → Fin 256 → EReal) (own : Fin 256 → EReal)

/-- The 512 inputs of the last layer: the mix less the point's own features, then its own features. -/
def feature (k : Fin 512) : EReal :=
  if h : k.val < 256 then mix d (fun j => q j ⟨k.val, h⟩) - own ⟨k.val, h⟩ else own ⟨k.val - 256, by omega⟩

/-- The leaky rectifier. -/
def leak (x : EReal) : EReal :=
  Scalar.select (FloatOps.cmpf (F := Ideal) (φ := .f32) .oge x (Ideal.ofBits .f32 0x00000000#32)) x (Ideal.ofBits .f32 0x3E4CCCCD#32 * x)

/-- One channel of the last layer, rectified, `w` the channel's weights and `b` its bias. -/
def channel (w : Fin 512 → EReal) (b : EReal) : EReal := leak ((∑ k, feature d q own k * w k) + b)

/-- The largest of ten numbers. -/
def largest (f : Fin 10 → EReal) : EReal := (Finset.univ : Finset (Fin 10)).fold max (Ideal.ofBits .f32 0xFF800000#32) f

end Cert.Proof

end
-- ==== Proof.Tail.lean ====
/- The third call of the kernel: from the distances of a tile's shifted points, three rounds of the search, the mix of the
   three nearest points' features as one-hot products, the last layer, and the largest over the ten neighbours. -/
module

public import proofs.«01_k».proof.Proof.Answer

@[expose] public section

noncomputable section

namespace Cert.Proof

open Cert.KernelIdeal Cert.KernelIdeal.Gen
open Idealize.ShloMosaic Idealize.ShloMosaic.TcCoe Idealize.SL.Sem Idealize.ShloMosaic.ValueIdx

/-- The shape facts of the third call's rounds. -/
theorem shapes1280 : RoundShapes 1280 :=
  ⟨reduces_S1280x1024_S1280, shapeCasts_S1280_S1280x1, broadcasts_S1280x1_S1280x1024⟩

/-- The positions along a row, as the third call writes them. -/
abbrev pos1280 : IVec S1280x1024 32 := iota .tc S1280x1024 32 [1] iota_S1280x1024_d1_w32

theorem pos1280_apply (r : Fin 1280) (j : Fin 1024) : pos1280 (ix2 r j) = BitVec.ofNat 32 j.val :=
  iota_single_apply _ _ _ _ _ _

section Block

variable (D : FVec Ideal S1280x1024 .f32) (own : FVec Ideal S128x256 .f32) (q : FVec Ideal S1024x256 .f32)

/-- The distances after `k` rounds. -/
abbrev left (k : ℕ) : FVec Ideal S1280x1024 .f32 := roundsOf shapes1280 pos1280 D k

/-- Round `k`'s mask as zeros and ones. -/
abbrev hot (k : ℕ) : FVec Ideal S1280x1024 .f32 :=
  sitofp .f32 (extui 32 (hitOf shapes1280 pos1280 (idxCol shapes1280 pos1280 (left D k))) natLt_1_32)

/-- Round `k`'s inverse distances, a column. -/
abbrev recipCol (k : ℕ) : FVec Ideal S1280x1 .f32 :=
  divf (broadcast S1280x1 (Scalar.ofBits .f32 0x3F800000#32))
    (addf (minCol shapes1280 (left D k)) (broadcast S1280x1 (Scalar.ofBits .f32 0x322BCC77#32)))

/-- The column of the three inverses' sums. -/
abbrev totalCol : FVec Ideal S1280x1 .f32 :=
  addf (addf (addf (broadcast S1280x1 (Scalar.ofBits .f32 0x00000000#32)) (recipCol D 0)) (recipCol D 1)) (recipCol D 2)

/-- What one round adds to the mix: the features its mask picks, weighted. -/
abbrev part (h : FVec Ideal S1280x1024 .f32) (w s : FVec Ideal S1280x1 .f32) : FVec Ideal S1280x256 .f32 :=
  mulf (matmul dot_S1280x1024_S1024x256_S1280x256_1_0_0_1_n_n (some .fp32) h q (constant S1280x256 .f32 0x00000000#32))
    (broadcastTo S1280x256 (divf w s) broadcasts_S1280x1_S1280x256)

/-- The mix, from the three rounds' masks, their inverse distances and the sum of these. -/
abbrev mixed (h0 h1 h2 : FVec Ideal S1280x1024 .f32) (w0 w1 w2 s : FVec Ideal S1280x1 .f32) : FVec Ideal S1280x256 .f32 :=
  addf (addf (addf (broadcast S1280x256 (Scalar.ofBits .f32 0x00000000#32)) (part q h0 w0 s)) (part q h1 w1 s)) (part q h2 w2 s)

/-- The points' own features, each ten times. -/
abbrev tenfold : FVec Ideal S1280x256 .f32 :=
  shapeCast S1280x256 (broadcastTo S128x10x256 (shapeCast S128x1x256 (shapeCast S128x1x256 own shapeCasts_S128x256_S128x1x256)
    shapeCasts_S128x1x256_S128x1x256) broadcasts_S128x1x256_S128x10x256) shapeCasts_S128x10x256_S1280x256

/-- The inputs of the last layer. -/
def inputs (h0 h1 h2 : FVec Ideal S1280x1024 .f32) (w0 w1 w2 s : FVec Ideal S1280x1 .f32) : FVec Ideal S1280x512 .f32 :=
  concatenate S1280x512 1 [⟨S1280x256, subf (mixed q h0 h1 h2 w0 w1 w2 s) (tenfold own)⟩, ⟨S1280x256, tenfold own⟩]
    concatenates_S1280x256_S1280x256_S1280x512_d1

/-- The inputs of the last layer from the block of distances. -/
abbrev inputsOf : FVec Ideal S1280x512 .f32 :=
  inputs own q (hot D 0) (hot D 1) (hot D 2) (recipCol D 0) (recipCol D 1) (recipCol D 2) (totalCol D)

variable (v4 : Vec Ideal S1x1280x1024 .f32)

theorem recip_0 : k2_pay7 v4 = recipCol (k2_pay4 v4) 0 := rfl
theorem hot_0 : k2_pay8 v4 = hot (k2_pay4 v4) 0 := rfl
theorem sum_0 : k2_pay9 v4 = addf (broadcast S1280x1 (Scalar.ofBits .f32 0x00000000#32)) (recipCol (k2_pay4 v4) 0) := rfl
theorem left_1 : k2_pay10 v4 = left (k2_pay4 v4) 1 := rfl
theorem least_1 : k2_pay11 v4 = minCol shapes1280 (left (k2_pay4 v4) 1) := rfl
theorem mask_1 : k2_pay12 v4 = hitOf shapes1280 pos1280 (idxCol shapes1280 pos1280 (left (k2_pay4 v4) 1)) := rfl

/-- The third round and the mix, from what the first two leave. -/
theorem third_round (w0 s0 m1 : FVec Ideal S1280x1 .f32) (h0 x1 : FVec Ideal S1280x1024 .f32) (k1 : IVec S1280x1024 1) :
    k2_pay14 own q pos1280 w0 h0 s0 x1 m1 k1 k2_pay13
      = inputs own q h0 (sitofp .f32 (extui 32 k1 natLt_1_32))
          (sitofp .f32 (extui 32 (hitOf shapes1280 pos1280 (idxCol shapes1280 pos1280 (coverHit k1 x1))) natLt_1_32))
          w0 (divf (broadcast S1280x1 (Scalar.ofBits .f32 0x3F800000#32)) (addf m1 (broadcast S1280x1 (Scalar.ofBits .f32 0x322BCC77#32))))
          (divf (broadcast S1280x1 (Scalar.ofBits .f32 0x3F800000#32))
            (addf (minCol shapes1280 (coverHit k1 x1)) (broadcast S1280x1 (Scalar.ofBits .f32 0x322BCC77#32))))
          (addf (addf s0 (divf (broadcast S1280x1 (Scalar.ofBits .f32 0x3F800000#32)) (addf m1 (broadcast S1280x1 (Scalar.ofBits .f32 0x322BCC77#32)))))
            (divf (broadcast S1280x1 (Scalar.ofBits .f32 0x3F800000#32))
              (addf (minCol shapes1280 (coverHit k1 x1)) (broadcast S1280x1 (Scalar.ofBits .f32 0x322BCC77#32))))) := rfl

/-- The kernel's inputs of the last layer are these. -/
theorem inputs_eq : k2_pay14 own q pos1280 (k2_pay7 v4) (k2_pay8 v4) (k2_pay9 v4) (k2_pay10 v4) (k2_pay11 v4) (k2_pay12 v4) k2_pay13
      = inputsOf (k2_pay4 v4) own q := by
  rw [recip_0, hot_0, sum_0, left_1, least_1, mask_1, third_round]
  rfl

variable (r : Fin 1280)

theorem recipCol_apply (hD : ∀ j, row D r j < ⊤) {k : ℕ} (hk : k < 1024) : recipCol D k (ix2 r 0) = recip (row D r) k := by
  refine (divf_apply _ _ _).trans (congrArg₂ Ideal.div rfl ((addf_apply _ _ _).trans (congrArg₂ (fun a b : EReal => a + b) ?_ rfl)))
  exact minCol_roundsOf shapes1280 pos1280 pos1280_apply D r hk hD

theorem totalCol_apply (hD : ∀ j, row D r j < ⊤) : totalCol D (ix2 r 0) = total (row D r) := by
  show Ideal.ofBits .f32 0x00000000#32 + recipCol D 0 (ix2 r 0) + recipCol D 1 (ix2 r 0) + recipCol D 2 (ix2 r 0) = _
  rw [recipCol_apply D r hD (k := 0) (by decide), recipCol_apply D r hD (k := 1) (by decide), recipCol_apply D r hD (k := 2) (by decide),
    Ideal.ofBits_zero_f32, zero_add]
  rfl

theorem part_apply (hD : ∀ j, row D r j < ⊤) {k : ℕ} (hk : k < 1024) (n : Fin 256) :
    part q (hot D k) (recipCol D k) (totalCol D) (ix2 r n) = share (row D r) (fun j => q (ix2 j n)) k := by
  refine congrArg₂ (fun a b : EReal => a * b) ?_ ?_
  · refine (Ideal.matmul_plain_apply (M := 1280) (K := 1024) (N := 256) (some .fp32) _ _ _ r n).trans ?_
    refine (congrArg₂ (fun a b : EReal => a + b) Ideal.ofBits_zero_f32 (Finset.sum_congr rfl fun j _ =>
      congrArg (fun a : EReal => a * q (ix2 j n)) (hot_apply shapes1280 pos1280 pos1280_apply _ r _
        (idxCol_roundsOf shapes1280 pos1280 pos1280_apply D r k) j))).trans ?_
    simp
  · refine (spreadCol_apply (by decide) _ _ r n).trans ?_
    exact (divf_apply _ _ _).trans (congrArg₂ Ideal.div (recipCol_apply D r hD hk) (totalCol_apply D r hD))

theorem mixed_apply (hD : ∀ j, row D r j < ⊤) (n : Fin 256) :
    mixed q (hot D 0) (hot D 1) (hot D 2) (recipCol D 0) (recipCol D 1) (recipCol D 2) (totalCol D) (ix2 r n) = mix (row D r) fun j => q (ix2 j n) := by
  show Ideal.ofBits .f32 0x00000000#32 + part q (hot D 0) (recipCol D 0) (totalCol D) (ix2 r n)
    + part q (hot D 1) (recipCol D 1) (totalCol D) (ix2 r n) + part q (hot D 2) (recipCol D 2) (totalCol D) (ix2 r n) = _
  rw [part_apply D q r hD (k := 0) (by decide), part_apply D q r hD (k := 1) (by decide), part_apply D q r hD (k := 2) (by decide),
    Ideal.ofBits_zero_f32, zero_add]
  rfl

/-- Row `r` of the ten-fold block belongs to point `r / 10`. -/
theorem tenfold_apply (n : Fin 256) : tenfold own (ix2 r n) = own (ix2 ⟨r.val / 10, by omega⟩ n) := by
  refine (shapeCast_apply _ _ (ix2 r n) (ix3 ⟨r.val / 10, by omega⟩ ⟨r.val % 10, by omega⟩ n) ?_).trans ?_
  · rw [Shape.rowMajor_val_three, Shape.rowMajor_val_two]
    show (r.val / 10 * 10 + r.val % 10) * 256 + n.val = r.val * 256 + n.val
    omega
  refine (broadcastTo_apply _ _ _ (ix3 ⟨r.val / 10, by omega⟩ 0 n) fun a => ?_).trans ?_
  · match a with
    | ⟨0, _⟩ => rfl
    | ⟨1, _⟩ => rfl
    | ⟨2, _⟩ => rfl
  rw [shapeCast_self]
  refine shapeCast_apply _ _ _ _ ?_
  rw [Shape.rowMajor_val_three, Shape.rowMajor_val_two]
  show r.val / 10 * 256 + n.val = (r.val / 10 * 1 + 0) * 256 + n.val
  omega

theorem inputs_apply (hD : ∀ j, row D r j < ⊤) (k : Fin 512) :
    inputsOf D own q (ix2 r k) = feature (row D r) (fun j n => q (ix2 j n)) (fun n => own (ix2 ⟨r.val / 10, by omega⟩ n)) k := by
  unfold feature inputsOf inputs
  split
  · rename_i h
    refine (concatenate_pair_apply_left (t := S1280x512) (s₁ := S1280x256) (s₂ := S1280x256) 1 _ _ _ (ix2 r k) rfl (ix2 r ⟨k.val, h⟩) fun b => ?_).trans ?_
    · match b with | ⟨0, _⟩ => rfl | ⟨1, _⟩ => rfl
    · exact congrArg₂ (fun a b : EReal => a - b) (mixed_apply D q r hD _) (tenfold_apply own r _)
  · rename_i h
    refine (concatenate_pair_apply_right (t := S1280x512) (s₁ := S1280x256) (s₂ := S1280x256) 1 _ _ _ (ix2 r k) rfl rfl (ix2 r ⟨k.val - 256, by omega⟩) (fun b hb => ?_) ?_).trans ?_
    · match b with | ⟨0, _⟩ => rfl | ⟨1, _⟩ => exact absurd rfl hb
    · show k.val - 256 + 256 = k.val; omega
    · exact tenfold_apply own r _

end Block

/-- Shifted point `k` of point `i` within a tile. -/
def slot (i : Fin 128) (k : Fin 10) : Fin 1280 := ⟨i.val * 10 + k.val, by omega⟩

theorem k2_pay1_apply (x : FVec Ideal S1280x512 .f32) (W : Vec Ideal S512x256 .f32) (b : Vec Ideal S1x256 .f32) (i : Fin 128) (n : Fin 256) :
    k2_pay1 x W b (ix3 0 i n)
      = largest fun j => leak ((∑ k : Fin 512, x (ix2 (slot i j) k) * W (ix2 k n)) + b (ix2 0 n)) := by
  unfold k2_pay1
  refine (shapeCast_addUnit_apply ![128, 256] _ _ (ix3 0 i n)).trans ?_
  have hj : (fun a : Fin 2 => (ix3 0 i n : S1x128x256.Idx) a.succ) = (ix2 i n : S128x256.Idx) := by
    funext a; match a with | ⟨0, _⟩ => rfl | ⟨1, _⟩ => rfl
  refine (congrArg _ hj).trans ?_
  refine (Ideal.multiReduction_maximumf_single _ _ reduces_S128x10x256_S128x256 _ _ _).trans ?_
  refine congrArg (fun f : Fin 10 → EReal => (Finset.univ : Finset (Fin 10)).fold max (Ideal.ofBits .f32 0xFF800000#32) f) (funext fun j => ?_)
  have hl : reduces_S128x10x256_S128x256.lift (ix2 i n) j = (ix3 i j n : S128x10x256.Idx) := by
    funext a; match a with | ⟨0, _⟩ => rfl | ⟨1, _⟩ => rfl | ⟨2, _⟩ => rfl
  refine (congrArg _ hl).trans ?_
  refine (shapeCast_apply _ _ _ (ix2 (slot i j) n) ?_).trans ?_
  · rw [Shape.rowMajor_val_three, Shape.rowMajor_val_two]
    rfl
  refine congrArg leak (congrArg₂ (fun a b : EReal => a + b)
    ((Ideal.matmul_plain_apply (M := 1280) (K := 512) (N := 256) none _ _ _ (slot i j) n).trans ?_) ?_)
  · exact (congrArg (fun a : EReal => a + ∑ k : Fin 512, x (ix2 (slot i j) k) * W (ix2 k n)) Ideal.ofBits_zero_f32).trans (zero_add _)
  · refine (broadcastTo_1b_ab_apply _ _ _ n).trans ?_
    rw [shapeCast_self]

variable (V : (c : Dev nD) → (b : Ref sig .tc) → Buf (Elt Ideal) ((c : Thread nD τ).loc b)) (c : Dev nD)

/-- Which block each window of the third call takes at grid point `t`. -/
theorem idx2 : ∀ t : Fin cfg2.N,
    (win2_0.index t (0 : Fin 3) = t.val / 8 ∧ win2_0.index t (1 : Fin 3) = t.val % 8 ∧ win2_0.index t (2 : Fin 3) = 0)
    ∧ (win2_1.index t (0 : Fin 3) = t.val / 8 ∧ win2_1.index t (1 : Fin 3) = 0 ∧ win2_1.index t (2 : Fin 3) = 0)
    ∧ (win2_2.index t (0 : Fin 3) = t.val / 8 ∧ win2_2.index t (1 : Fin 3) = t.val % 8 ∧ win2_2.index t (2 : Fin 3) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 3) = t.val / 8 ∧ win2_5.index t (1 : Fin 3) = t.val % 8 ∧ win2_5.index t (2 : Fin 3) = 0) :=
  (by decide +kernel : ∀ t : Fin grid2.N, _)

/-- Shifted point `k` of point `i`, among all the shifted points of a batch member. -/
def shifted (i : Fin 1024) (k : Fin 10) : Fin 10240 := ⟨i.val * 10 + k.val, by omega⟩

theorem blk2_0 (t : Fin cfg2.N) (r : Fin 128) (n : Fin 256) :
    iblk2 V c 0 t (ix3 0 r n : S1x128x256.Idx) = V c main_arg0 (ix3 (memb t) (place t r) n : S4x1024x256.Idx) := by
  obtain ⟨⟨e0, e1, e2⟩, -⟩ := idx2 t
  show V c main_arg0 (((cfg2.win 0).blk t).view.emb (ix3 0 r n : S1x128x256.Idx)) = _
  refine congrArg (V c main_arg0) (funext fun a => Fin.ext ?_)
  match a with
  | ⟨0, _⟩ => show win2_0.index t (0 : Fin 3) * 1 + 1 * 0 = t.val / 8; omega
  | ⟨1, _⟩ => show win2_0.index t (1 : Fin 3) * 128 + 1 * r.val = t.val % 8 * 128 + r.val; omega
  | ⟨2, _⟩ => show win2_0.index t (2 : Fin 3) * 256 + 1 * n.val = n.val; omega

theorem blk2_1 (t : Fin cfg2.N) (j : Fin 1024) (n : Fin 256) :
    iblk2 V c 1 t (ix3 0 j n : S1x1024x256.Idx) = V c main_arg0 (ix3 (memb t) j n : S4x1024x256.Idx) := by
  obtain ⟨-, ⟨e0, e1, e2⟩, -⟩ := idx2 t
  show V c main_arg0 (((cfg2.win 1).blk t).view.emb (ix3 0 j n : S1x1024x256.Idx)) = _
  refine congrArg (V c main_arg0) (funext fun a => Fin.ext ?_)
  match a with
  | ⟨0, _⟩ => show win2_1.index t (0 : Fin 3) * 1 + 1 * 0 = t.val / 8; omega
  | ⟨1, _⟩ => show win2_1.index t (1 : Fin 3) * 1024 + 1 * j.val = j.val; omega
  | ⟨2, _⟩ => show win2_1.index t (2 : Fin 3) * 256 + 1 * n.val = n.val; omega

theorem blk2_2 (t : Fin cfg2.N) (i : Fin 128) (k : Fin 10) (j : Fin 1024) :
    iblk2 V c 2 t (ix3 0 (slot i k) j : S1x1280x1024.Idx) = V c main_v100 (ix3 (memb t) (shifted (place t i) k) j : S4x10240x1024.Idx) := by
  obtain ⟨-, -, ⟨e0, e1, e2⟩, -⟩ := idx2 t
  show V c main_v100 (((cfg2.win 2).blk t).view.emb (ix3 0 (slot i k) j : S1x1280x1024.Idx)) = _
  refine congrArg (V c main_v100) (funext fun a => Fin.ext ?_)
  match a with
  | ⟨0, _⟩ => show win2_2.index t (0 : Fin 3) * 1 + 1 * 0 = t.val / 8; omega
  | ⟨1, _⟩ =>
    show win2_2.index t (1 : Fin 3) * 1280 + 1 * (i.val * 10 + k.val) = (t.val % 8 * 128 + i.val) * 10 + k.val; omega
  | ⟨2, _⟩ => show win2_2.index t (2 : Fin 3) * 1024 + 1 * j.val = j.val; omega

theorem blk2_3 (t : Fin cfg2.N) : iblk2 V c 3 t = V c main_arg9 := by
  obtain ⟨-, -, -, ⟨e0, e1⟩, -⟩ := idx2 t
  funext (j : S512x256.Idx)
  show V c main_arg9 (((cfg2.win 3).blk t).view.emb j) = _
  refine congrArg (V c main_arg9) (funext fun a => Fin.ext ?_)
  match a with
  | ⟨0, _⟩ => show win2_3.index t (0 : Fin 2) * 512 + 1 * (j 0).val = (j 0).val; omega
  | ⟨1, _⟩ => show win2_3.index t (1 : Fin 2) * 256 + 1 * (j 1).val = (j 1).val; omega

theorem blk2_4 (t : Fin cfg2.N) : iblk2 V c 4 t = V c main_v101 := by
  obtain ⟨-, -, -, -, ⟨e0, e1⟩, -⟩ := idx2 t
  funext (j : S1x256.Idx)
  show V c main_v101 (((cfg2.win 4).blk t).view.emb j) = _
  refine congrArg (V c main_v101) (funext fun a => Fin.ext ?_)
  match a with
  | ⟨0, _⟩ => show win2_4.index t (0 : Fin 2) * 1 + 1 * (j 0).val = (j 0).val; omega
  | ⟨1, _⟩ => show win2_4.index t (1 : Fin 2) * 256 + 1 * (j 1).val = (j 1).val; omega

/-- The result in plain terms: entry `(b, i, n)` from the features, the shifted points' distances, the last layer's
    weights and its bias. -/
def answer (q : Vec Ideal S4x1024x256 .f32) (d : Vec Ideal S4x10240x1024 .f32) (W : Vec Ideal S512x256 .f32)
    (b : Fin 256 → EReal) : Vec Ideal S4x1024x256 .f32 := fun i =>
  largest fun k => channel (fun j => d (ix3 (i 0) (shifted (i 1) k) j)) (fun j n => q (ix3 (i 0) j n)) (fun n => q (ix3 (i 0) (i 1) n))
    (fun m => W (ix2 m (i 2))) (b (i 2))

/-- The block the third call leaves at grid point `t`, at point `i` and channel `n`. -/
theorem tail_block {d : Vec Ideal S4x10240x1024 .f32} (hv : V c main_v100 = d) (hd : ∀ i, d i < ⊤) (t : Fin cfg2.N) (i : Fin 128) (n : Fin 256) :
    out2_5 (iblk2 V c 0 t) (iblk2 V c 1 t) (iblk2 V c 2 t) (iblk2 V c 3 t) (iblk2 V c 4 t) (ix3 0 i n)
      = answer (V c main_arg0) d (V c main_arg9) (fun n => V c main_v101 (ix2 0 n : S1x256.Idx))
          (ix3 (memb t) (place t i) n) := by
  have ho : out2_5 (iblk2 V c 0 t) (iblk2 V c 1 t) (iblk2 V c 2 t) (iblk2 V c 3 t) (iblk2 V c 4 t)
      = k2_pay1 (inputsOf (k2_pay4 (iblk2 V c 2 t)) (k2_pay2 (iblk2 V c 0 t)) (k2_pay3 (iblk2 V c 1 t))) (iblk2 V c 3 t) (iblk2 V c 4 t) := by
    rw [← inputs_eq]
    unfold out2_5
    rw [View.ld_unit_zero zero3, View.ld_unit_zero zero3, View.ld_unit_zero zero3, View.ld_unit_zero zero2, View.ld_unit_zero zero2]
    exact View.canon_unit_zero (S := S1x128x256) zero3 _ _
  rw [ho, k2_pay1_apply]
  refine congrArg largest (funext fun k => ?_)
  have hrow : row (k2_pay4 (iblk2 V c 2 t)) (slot i k)
      = fun j => d (ix3 (memb t) (shifted (place t i) k) j) := funext fun j =>
    (shapeCast_1ab_ab_apply (iblk2 V c 2 t) _ (slot i k) j).trans ((blk2_2 V c t i k j).trans (congrFun hv _))
  have hq : (fun j n => k2_pay3 (iblk2 V c 1 t) (ix2 j n)) = fun j n => V c main_arg0 (ix3 (memb t) j n : S4x1024x256.Idx) :=
    funext fun j => funext fun n => (shapeCast_1ab_ab_apply (iblk2 V c 1 t) _ j n).trans (blk2_1 V c t j n)
  have hi : (⟨(slot i k).val / 10, by have := (slot i k).isLt; omega⟩ : Fin 128) = i :=
    Fin.ext (by show (i.val * 10 + k.val) / 10 = i.val; omega)
  have hown : (fun n => k2_pay2 (iblk2 V c 0 t) (ix2 (⟨(slot i k).val / 10, by have := (slot i k).isLt; omega⟩ : Fin 128) n))
      = fun n => V c main_arg0 (ix3 (memb t) (place t i) n : S4x1024x256.Idx) := funext fun n => by
    rw [hi]; exact (shapeCast_1ab_ab_apply (iblk2 V c 0 t) _ i n).trans (blk2_0 V c t i n)
  refine congrArg leak (congrArg₂ (fun a b : EReal => a + b) (Finset.sum_congr rfl fun m _ =>
    congrArg₂ (fun a b : EReal => a * b) ?_ (congrFun (blk2_3 V c t) _)) (congrFun (blk2_4 V c t) _))
  refine (inputs_apply _ _ _ (slot i k) (fun j => ?_) m).trans ?_
  · rw [hrow]; exact hd _
  · rw [hrow, hq, hown]

/-- The third call leaves the answer in its result array, the distances it is given being below `⊤`. -/
theorem tail_array {d : Vec Ideal S4x10240x1024 .f32} (hv : V c main_v100 = d) (hd : ∀ i, d i < ⊤) : (dat2 V c).arrAt 5 cfg2.N
    = answer (V c main_arg0) d (V c main_arg9) fun n => V c main_v101 (ix2 0 n : S1x256.Idx) := by
  refine (dat2 V c).arrAt_eq_of_covers 5 _ (by decide +kernel) fun t hf (y : S1x128x256.Idx) => ?_
  have hy : y = ix3 0 (y 1) (y 2) := by
    funext a; match a with | ⟨0, _⟩ => exact Subsingleton.elim (α := Fin 1) _ _ | ⟨1, _⟩ => rfl | ⟨2, _⟩ => rfl
  show (dat2 V c).after 5 t y = _
  rw [after2_5]
  have he : ((cfg2.win 5).blk t).view.emb y = (ix3 (memb t) (place t (y 1)) (y 2) : S4x1024x256.Idx) := by
    obtain ⟨-, -, -, -, -, e0, e1, e2⟩ := idx2 t
    rw [hy]
    refine funext fun a => Fin.ext ?_
    match a with
    | ⟨0, _⟩ => show win2_5.index t (0 : Fin 3) * 1 + 1 * 0 = t.val / 8; omega
    | ⟨1, _⟩ => show win2_5.index t (1 : Fin 3) * 128 + 1 * (y 1).val = t.val % 8 * 128 + (y 1).val; omega
    | ⟨2, _⟩ => show win2_5.index t (2 : Fin 3) * 256 + 1 * (y 2).val = (y 2).val; omega
  refine Eq.trans ?_ (congrArg (answer (V c main_arg0) d (V c main_arg9) fun n => V c main_v101 (ix2 0 n : S1x256.Idx)) he.symm)
  rw [hy]
  exact tail_block V c hv hd t (y 1) (y 2)

end Cert.Proof

end
-- ==== Proof.Gather.lean ====
/- The reference's gather of the nearest points' features, read at one point. -/
module

public import proofs.«01_k».proof.Proof.Tail

@[expose] public section

noncomputable section

namespace Cert.Proof

open Cert.ReferenceIdeal Cert.ReferenceIdeal.Gen
open Idealize.ShloMosaic Idealize.ShloMosaic.TcCoe Idealize.SL.Sem Idealize.ShloMosaic.ValueIdx
open Cert.ReferenceIdeal.Read

/-- An index that is not negative is taken as it stands. -/
theorem wrap_pos {k : ℕ} (h : k ≤ 1024) (z : BitVec 32) :
    Scalar.select (IntOp.cmpi .slt (BitVec.ofNat 32 k) 0#32) z (BitVec.ofNat 32 k) = BitVec.ofNat 32 k := by
  have e : IntOp.cmpi .slt (BitVec.ofNat 32 k) 0#32 = 0#1 := by
    show BitVec.ofBool (BitVec.slt (BitVec.ofNat 32 k) 0#32) = 0#1
    have : BitVec.slt (BitVec.ofNat 32 k) 0#32 = false := by
      rw [BitVec.slt, toInt_pos h]
      simp
    rw [this]; rfl
  rw [e]; rfl

/-- The gather at batch member `b` and point `p` reads the features of that point. -/
theorem gather_point {α : Type} (x : S4x1024x256.Idx → α) (idx : IVec S4x10240x3x2 32) (b : Fin 4) (n : Fin 10240) (k : Fin 3)
    (c : Fin 256) (p : Fin 1024) (h0 : idx (ix4 b n k 0) = BitVec.ofNat 32 b.val) (h1 : idx (ix4 b n k 1) = BitVec.ofNat 32 p.val) :
    Host.gather gather_S4x1024x256_S4x10240x3x2_S4x10240x3x256_3_01_n_n_01_3_11256 x idx (ix4 b n k c) = x (ix3 b p c) := by
  refine congrArg x (funext fun a => Fin.ext ?_)
  generalize hd : gather_S4x1024x256_S4x10240x3x2_S4x10240x3x256_3_01_n_n_01_3_11256 = d
  show d.start (ix4 b n k c) idx a + d.batchCoord (ix4 b n k c) a + d.offCoord (ix4 b n k c) a = _
  subst hd
  rw [GatherDims.batchCoord_eq_zero _ _ _ List.not_mem_nil]
  obtain rfl | rfl | rfl : a = 0 ∨ a = 1 ∨ a = 2 := by
    match a with | ⟨0, _⟩ => exact .inl rfl | ⟨1, _⟩ => exact .inr (.inl rfl) | ⟨2, _⟩ => exact .inr (.inr rfl)
  · rw [GatherDims.offCoord_eq_zero _ _ _ (fun h => ((GatherDims.mem_sKept _ _).mp h).1 (show (0 : Fin 3) ∈ [(0 : Fin 3), 1] by decide))]
    unfold GatherDims.start
    rw [dif_pos (by decide)]
    have hsi : gather_S4x1024x256_S4x10240x3x2_S4x10240x3x256_3_01_n_n_01_3_11256.siIdx (ix4 b n k c) ⟨0, by decide⟩ = ix4 b n k 0 := by
      funext e; refine Fin.ext ?_
      match e with | ⟨0, _⟩ => rfl | ⟨1, _⟩ => rfl | ⟨2, _⟩ => rfl | ⟨3, _⟩ => rfl
    have hb := b.isLt
    refine (congrArg (fun z : BitVec 32 => min z.toInt.toNat 3 + 0 + 0) ((congrArg idx hsi).trans h0)).trans ?_
    show min (BitVec.ofNat 32 b.val).toInt.toNat 3 + 0 + 0 = b.val
    rw [toInt_pos (k := b.val) (by omega)]
    omega
  · rw [GatherDims.offCoord_eq_zero _ _ _ (fun h => ((GatherDims.mem_sKept _ _).mp h).1 (show (1 : Fin 3) ∈ [(0 : Fin 3), 1] by decide))]
    unfold GatherDims.start
    rw [dif_pos (by decide)]
    have hsi : gather_S4x1024x256_S4x10240x3x2_S4x10240x3x256_3_01_n_n_01_3_11256.siIdx (ix4 b n k c) ⟨1, by decide⟩ = ix4 b n k 1 := by
      funext e; refine Fin.ext ?_
      match e with | ⟨0, _⟩ => rfl | ⟨1, _⟩ => rfl | ⟨2, _⟩ => rfl | ⟨3, _⟩ => rfl
    have hp := p.isLt
    refine (congrArg (fun z : BitVec 32 => min z.toInt.toNat 1023 + 0 + 0) ((congrArg idx hsi).trans h1)).trans ?_
    show min (BitVec.ofNat 32 p.val).toInt.toNat 1023 + 0 + 0 = p.val
    rw [toInt_pos (k := p.val) (by omega)]
    omega
  · unfold GatherDims.start
    rw [dif_neg (by decide)]
    show 0 + 0 + c.val = c.val
    omega

end Cert.Proof

end
-- ==== Proof.TailRef.lean ====
/- The reference's result in the same plain terms: its gather reads the three nearest points' features, so its mix, its last
   layer and its maximum are `answer`'s. -/
module

public import proofs.«01_k».proof.Proof.Gather

@[expose] public section

noncomputable section

namespace Cert.Proof

open Cert.ReferenceIdeal Cert.ReferenceIdeal.Gen
open Idealize.ShloMosaic Idealize.ShloMosaic.TcCoe Idealize.SL.Sem Idealize.ShloMosaic.ValueIdx
open Cert.ReferenceIdeal.Read

variable (x0 : Vec Ideal S4x1024x256 .f32) (x1 : Vec Ideal S4x1024x3 .f32) (x2 : Vec Ideal S256x256 .f32)
  (x3 : Vec Ideal S256 .f32) (x4 : Vec Ideal S512x256 .f32) (x5 x6 x7 : Vec Ideal S256 .f32) (x8 : Vec Ideal S256x3 .f32)
  (x9 : Vec Ideal S512x256 .f32) (x10 : Vec Ideal S256 .f32)

/-- The distances of shifted point `n` of batch member `b`. -/
abbrev far (b : Fin 4) (n : Fin 10240) : Fin 1024 → EReal := fun j => val_main_v108 (F := Ideal) x0 x1 x2 x3 x4 x5 x6 x7 x8 (ix3 b n j)

variable (hd : ∀ b n j, val_main_v108 (F := Ideal) x0 x1 x2 x3 x4 x5 x6 x7 x8 (ix3 b n j) < ⊤)
include hd

theorem near_index (b : Fin 4) (n : Fin 10240) (k : Fin 3) : val_main_indices_22 (F := Ideal) x0 x1 x2 x3 x4 x5 x6 x7 x8 (ix3 b n k)
    = BitVec.ofNat 32 (pick (far x0 x1 x2 x3 x4 x5 x6 x7 x8 b n) k).val :=
  topK_index (by decide) (val_main_v109 (F := Ideal) x0 x1 x2 x3 x4 x5 x6 x7 x8) _ b n k _ (hd _ _) fun _ => rfl

theorem near_value (b : Fin 4) (n : Fin 10240) (k : Fin 3) : val_main_values_21 (F := Ideal) x0 x1 x2 x3 x4 x5 x6 x7 x8 (ix3 b n k)
    = -(far x0 x1 x2 x3 x4 x5 x6 x7 x8 b n (pick (far x0 x1 x2 x3 x4 x5 x6 x7 x8 b n) k)) :=
  topK_value (by decide) (val_main_v109 (F := Ideal) x0 x1 x2 x3 x4 x5 x6 x7 x8) _ b n k _ (hd _ _) fun _ => rfl

theorem ref_recip (b : Fin 4) (n : Fin 10240) (k : Fin 3) : val_main_v114 (F := Ideal) x0 x1 x2 x3 x4 x5 x6 x7 x8 (ix3 b n k)
    = recip (far x0 x1 x2 x3 x4 x5 x6 x7 x8 b n) k := by
  refine (val_main_v114_apply _ _ _ _ _ _ _ _ _ _).trans (congrArg₂ Ideal.div ?_ ?_)
  · rw [val_main_v113_apply]; rfl
  · refine (val_main_v112_apply _ _ _ _ _ _ _ _ _ _).trans (congrArg₂ (fun a b : EReal => a + b) ?_ ?_)
    · refine (congrArg (fun z : EReal => -z) (near_value x0 x1 x2 x3 x4 x5 x6 x7 x8 hd b n k)).trans ?_
      exact neg_neg _
    · rw [val_main_v111_apply]; rfl

theorem ref_weight (b : Fin 4) (n : Fin 10240) (k : Fin 3) : val_main_v118 (F := Ideal) x0 x1 x2 x3 x4 x5 x6 x7 x8 (ix3 b n k)
    = Ideal.div (recip (far x0 x1 x2 x3 x4 x5 x6 x7 x8 b n) k) (total (far x0 x1 x2 x3 x4 x5 x6 x7 x8 b n)) := by
  refine (val_main_v118_apply _ _ _ _ _ _ _ _ _ _).trans (congrArg₂ Ideal.div (ref_recip x0 x1 x2 x3 x4 x5 x6 x7 x8 hd b n k) ?_)
  rw [val_main_v117_apply, val_main_v116_apply, val_main_v115_apply]
  have e : ∀ l : Fin 3, idx_main_v115 (idx_main_v116 (idx_main_v117 (ix3 b n k))) l = ix3 b n l := fun l => by
    funext a; match a with | ⟨0, _⟩ => rfl | ⟨1, _⟩ => rfl | ⟨2, _⟩ => rfl
  refine (congrArg₂ (fun a b : EReal => a + b) Ideal.ofBits_zero_f32 (Finset.sum_congr rfl fun l _ =>
    (congrArg _ (e l)).trans (ref_recip x0 x1 x2 x3 x4 x5 x6 x7 x8 hd b n l))).trans ?_
  rw [zero_add, Fin.sum_univ_three]
  rfl

theorem ref_gather (b : Fin 4) (n : Fin 10240) (k : Fin 3) (c : Fin 256) :
    val_main_v133 (F := Ideal) x0 x1 x2 x3 x4 x5 x6 x7 x8 (ix4 b n k c)
      = x0 (ix3 b (pick (far x0 x1 x2 x3 x4 x5 x6 x7 x8 b n) k) c) := by
  refine gather_point x0 _ b n k c _ ?_ ?_
  · refine (concatenate_pair_apply_left (t := S4x10240x3x2) (s₁ := S4x10240x3x1) (s₂ := S4x10240x3x1) 3 _ _ _ (ix4 b n k 0) rfl
      (ix4 b n k 0) fun a => ?_).trans ?_
    · match a with | ⟨0, _⟩ => rfl | ⟨1, _⟩ => rfl | ⟨2, _⟩ => rfl | ⟨3, _⟩ => rfl
    rw [val_main_v130_apply, val_main_v129_apply, val_main_v123_apply, val_main_v120_apply, val_main_v119_apply, val_main_v16_apply]
    exact wrap_pos (k := b.val) (by have := b.isLt; omega) _
  · refine (concatenate_pair_apply_right (t := S4x10240x3x2) (s₁ := S4x10240x3x1) (s₂ := S4x10240x3x1) 3 _ _ _ (ix4 b n k 1) rfl rfl
      (ix4 b n k 0) (fun a ha => ?_) rfl).trans ?_
    · match a with | ⟨0, _⟩ => rfl | ⟨1, _⟩ => rfl | ⟨2, _⟩ => rfl | ⟨3, _⟩ => exact absurd rfl ha
    have e : idx_main_v131 (ix4 b n k 0) = ix3 b n k := by
      funext a; match a with | ⟨0, _⟩ => rfl | ⟨1, _⟩ => rfl | ⟨2, _⟩ => rfl
    rw [val_main_v131_apply, e, val_main_v128_apply, val_main_v125_apply, val_main_v124_apply,
      near_index x0 x1 x2 x3 x4 x5 x6 x7 x8 hd b n k]
    exact wrap_pos (Fin.isLt _).le _

theorem ref_mix (b : Fin 4) (n : Fin 10240) (c : Fin 256) : val_main_v137 (F := Ideal) x0 x1 x2 x3 x4 x5 x6 x7 x8 (ix3 b n c)
    = mix (far x0 x1 x2 x3 x4 x5 x6 x7 x8 b n) fun j => x0 (ix3 b j c) := by
  rw [val_main_v137_apply]
  have e : ∀ l : Fin 3, idx_main_v137 (ix3 b n c) l = ix4 b n l c := fun l => by
    funext a; match a with | ⟨0, _⟩ => rfl | ⟨1, _⟩ => rfl | ⟨2, _⟩ => rfl | ⟨3, _⟩ => rfl
  have e' : ∀ l : Fin 3, idx_main_v134 (idx_main_v135 (ix4 b n l c)) = ix3 b n l := fun l => by
    funext a; match a with | ⟨0, _⟩ => rfl | ⟨1, _⟩ => rfl | ⟨2, _⟩ => rfl
  have hs : ∀ l : Fin 3, val_main_v136 (F := Ideal) x0 x1 x2 x3 x4 x5 x6 x7 x8 (idx_main_v137 (ix3 b n c) l)
      = share (far x0 x1 x2 x3 x4 x5 x6 x7 x8 b n) (fun j => x0 (ix3 b j c)) l := fun l => by
    rw [e, val_main_v136_apply]
    refine congrArg₂ (fun a b : EReal => a * b) (ref_gather x0 x1 x2 x3 x4 x5 x6 x7 x8 hd b n l c) ?_
    rw [val_main_v135_apply, val_main_v134_apply, e']
    exact ref_weight x0 x1 x2 x3 x4 x5 x6 x7 x8 hd b n l
  refine (congrArg₂ (fun a b : EReal => a + b) Ideal.ofBits_zero_f32 (Finset.sum_congr rfl fun l _ => hs l)).trans ?_
  rw [zero_add, Fin.sum_univ_three]
  rfl

omit hd in
theorem ref_own (b : Fin 4) (i : Fin 1024) (k : Fin 10) (c : Fin 256) :
    val_main_v37 (F := Ideal) x0 (ix4 b i k c) = x0 (ix3 b i c) := by
  rw [val_main_v37_apply, val_main_v36_apply]
  refine congrArg x0 (funext fun a => ?_)
  match a with | ⟨0, _⟩ => rfl | ⟨1, _⟩ => rfl | ⟨2, _⟩ => rfl

theorem ref_feature (b : Fin 4) (i : Fin 1024) (k : Fin 10) (m : Fin 512) :
    val_main_v140 (F := Ideal) x0 x1 x2 x3 x4 x5 x6 x7 x8 (ix4 b i k m)
      = feature (far x0 x1 x2 x3 x4 x5 x6 x7 x8 b (shifted i k)) (fun j n => x0 (ix3 b j n)) (fun n => x0 (ix3 b i n)) m := by
  unfold feature
  split
  · rename_i h
    refine (concatenate_pair_apply_left (t := S4x1024x10x512) (s₁ := S4x1024x10x256) (s₂ := S4x1024x10x256) 3 _ _ _ (ix4 b i k m) rfl
      (ix4 b i k ⟨m.val, h⟩) fun a => ?_).trans ?_
    · match a with | ⟨0, _⟩ => rfl | ⟨1, _⟩ => rfl | ⟨2, _⟩ => rfl | ⟨3, _⟩ => rfl
    rw [val_main_v139_apply]
    refine congrArg₂ (fun a b : EReal => a - b) ?_ (ref_own x0 b i k _)
    refine (shapeCast_apply _ _ _ (ix3 b (shifted i k) ⟨m.val, h⟩) ?_).trans (ref_mix x0 x1 x2 x3 x4 x5 x6 x7 x8 hd b (shifted i k) _)
    rw [Shape.rowMajor_val_three, Shape.rowMajor_val_four]
    show (b.val * 10240 + (i.val * 10 + k.val)) * 256 + m.val = ((b.val * 1024 + i.val) * 10 + k.val) * 256 + m.val
    omega
  · rename_i h
    refine (concatenate_pair_apply_right (t := S4x1024x10x512) (s₁ := S4x1024x10x256) (s₂ := S4x1024x10x256) 3 _ _ _ (ix4 b i k m) rfl rfl
      (ix4 b i k ⟨m.val - 256, by omega⟩) (fun a ha => ?_) ?_).trans (ref_own x0 b i k _)
    · match a with | ⟨0, _⟩ => rfl | ⟨1, _⟩ => rfl | ⟨2, _⟩ => rfl | ⟨3, _⟩ => exact absurd rfl ha
    · show m.val - 256 + 256 = m.val; omega

theorem ref_channel (b : Fin 4) (i : Fin 1024) (k : Fin 10) (n : Fin 256) :
    val_main_v145 (F := Ideal) x0 x1 x2 x3 x4 x5 x6 x7 x8 x9 x10 (ix4 b i k n)
      = channel (far x0 x1 x2 x3 x4 x5 x6 x7 x8 b (shifted i k)) (fun j n => x0 (ix3 b j n)) (fun n => x0 (ix3 b i n))
          (fun m => x9 (ix2 m n)) (x10 (ix1 n)) := by
  have h144 : val_main_v144 (F := Ideal) x0 x1 x2 x3 x4 x5 x6 x7 x8 x9 x10 (ix4 b i k n)
      = (∑ m, feature (far x0 x1 x2 x3 x4 x5 x6 x7 x8 b (shifted i k)) (fun j n => x0 (ix3 b j n)) (fun n => x0 (ix3 b i n)) m
          * x9 (ix2 m n)) + x10 (ix1 n) := by
    rw [val_main_v144_apply, val_main_v141_apply, val_main_v143_apply, val_main_v142_apply]
    refine congrArg₂ (fun a b : EReal => a + b) (Finset.sum_congr rfl fun m _ => congrArg₂ (fun a b : EReal => a * b) ?_ ?_) ?_
    · have e : lidx_main_v141 (ix4 b i k n) m = ix4 b i k m := by
        funext a; match a with | ⟨0, _⟩ => rfl | ⟨1, _⟩ => rfl | ⟨2, _⟩ => rfl | ⟨3, _⟩ => rfl
      rw [e]; exact ref_feature x0 x1 x2 x3 x4 x5 x6 x7 x8 hd b i k m
    · exact congrArg x9 (funext fun a => by match a with | ⟨0, _⟩ => rfl | ⟨1, _⟩ => rfl)
    · exact congrArg x10 (funext fun a => by match a with | ⟨0, _⟩ => rfl)
  unfold channel
  rw [← h144, val_main_v145_apply]
  rfl

end Cert.Proof

end
-- ==== Proof.Result.lean ====
/- The reference's result is the answer at the reference's own distances: its maximum over the ten neighbours. -/
module

public import proofs.«01_k».proof.Proof.TailRef

@[expose] public section

noncomputable section

namespace Cert.Proof

open Cert.ReferenceIdeal Cert.ReferenceIdeal.Gen
open Idealize.ShloMosaic Idealize.ShloMosaic.TcCoe Idealize.SL.Sem Idealize.ShloMosaic.ValueIdx
open Cert.ReferenceIdeal.Read

/-- The reference's maximum over the ten neighbours, of any numbers. -/
theorem reduce_largest (x : Vec Ideal S4x1024x10x256 .f32) (b : Fin 4) (i : Fin 1024) (n : Fin 256) :
    Host.reduce (FloatOps.maximumf (F := Ideal) (φ := .f32)) x (val_main_cst_32 (F := Ideal)) reducesTo_S4x1024x10x256_S4x1024x256_d2 h_S_ (ix3 b i n)
      = largest fun k => x (ix4 b i k n) := by
  have hr : S4x1024x10x256.Reduces [2] S4x1024x256 := by decide
  have hl : ∀ k : Fin 10, hr.lift (ix3 b i n) k = ix4 b i k n := fun k => by
    funext a; match a with | ⟨0, _⟩ => rfl | ⟨1, _⟩ => rfl | ⟨2, _⟩ => rfl | ⟨3, _⟩ => rfl
  refine (Host.reduce_eq_fold_single (FloatOps.maximumf (F := Ideal) (φ := .f32)) x (val_main_cst_32 (F := Ideal))
    reducesTo_S4x1024x10x256_S4x1024x256_d2 hr h_S_ (ix3 b i n)).trans ?_
  have hf : (x ∘ hr.lift (ix3 b i n)) = fun k : Fin 10 => x (ix4 b i k n) := funext fun k => congrArg x (hl k)
  rw [hf]
  rfl

variable (x0 : Vec Ideal S4x1024x256 .f32) (x1 : Vec Ideal S4x1024x3 .f32) (x2 : Vec Ideal S256x256 .f32)
  (x3 : Vec Ideal S256 .f32) (x4 : Vec Ideal S512x256 .f32) (x5 x6 x7 : Vec Ideal S256 .f32) (x8 : Vec Ideal S256x3 .f32)
  (x9 : Vec Ideal S512x256 .f32) (x10 : Vec Ideal S256 .f32)

variable (hd : ∀ b n j, val_main_v108 (F := Ideal) x0 x1 x2 x3 x4 x5 x6 x7 x8 (ix3 b n j) < ⊤)
include hd

/-- The reference's result at one point and channel: the largest over the point's ten neighbours. -/
theorem ref_answer_at (b : Fin 4) (i : Fin 1024) (n : Fin 256) :
    val_main_v146 (F := Ideal) x0 x1 x2 x3 x4 x5 x6 x7 x8 x9 x10 (ix3 b i n)
      = largest fun k => channel (far x0 x1 x2 x3 x4 x5 x6 x7 x8 b (shifted i k)) (fun j n => x0 (ix3 b j n)) (fun n => x0 (ix3 b i n))
          (fun m => x9 (ix2 m n)) (x10 (ix1 n)) := by
  unfold val_main_v146
  rw [reduce_largest]
  exact congrArg largest (funext fun k => ref_channel x0 x1 x2 x3 x4 x5 x6 x7 x8 x9 x10 hd b i k n)

/-- The reference's result is the answer at its own distances. -/
theorem ref_answer : val_main_v146 (F := Ideal) x0 x1 x2 x3 x4 x5 x6 x7 x8 x9 x10
    = answer x0 (val_main_v108 (F := Ideal) x0 x1 x2 x3 x4 x5 x6 x7 x8) x9 fun n => x10 (ix1 n) := by
  funext (y : S4x1024x256.Idx)
  have hy : y = ix3 (y 0) (y 1) (y 2) := by
    funext a; match a with | ⟨0, _⟩ => rfl | ⟨1, _⟩ => rfl | ⟨2, _⟩ => rfl
  exact (congrArg (val_main_v146 (F := Ideal) x0 x1 x2 x3 x4 x5 x6 x7 x8 x9 x10) hy).trans (ref_answer_at x0 x1 x2 x3 x4 x5 x6 x7 x8 x9 x10 hd (y 0) (y 1) (y 2))

end Cert.Proof

end
-- ==== Proof.Entry.lean ====
/- What the host hands to the kernel's calls: the second call's padded and transposed positions with their squared lengths,
   and the biases as one-row matrices. -/
module

public import proofs.«01_k».proof.Proof.Result
public import Idealize.ShloMosaic.Lib.KernelVsHost

@[expose] public section

noncomputable section

namespace Cert.Proof

open Cert.KernelIdeal Cert.KernelIdeal.Gen
open Idealize.ShloMosaic Idealize.ShloMosaic.TcCoe Idealize.SL.Sem Idealize.ShloMosaic.ValueIdx

/-- The positions padded with zeros to eight coordinates. -/
def padded (x1 : Vec Ideal S4x1024x3 .f32) : Vec Ideal S4x1024x8 .f32 :=
  pad S4x1024x8 ![0, 0, 0] ![0, 0, 5] ![0, 0, 0] x1 (sitofp (F := Ideal) .f32 (constantI S_ 32 0#32))
    pads_S4x1024x3_S4x1024x8_000_000_050 h_S_

/-- The positions' squared lengths. -/
def lengths (x1 : Vec Ideal S4x1024x3 .f32) : Vec Ideal S4x1024 .f32 :=
  Host.reduceAdd (F := Ideal) (mulf x1 x1) (constant S_ .f32 0x00000000#32) reducesTo_S4x1024x3_S4x1024_d2 h_S_

/-- A bias as a matrix of one row. -/
def biasRow (b : Vec Ideal S256 .f32) : Vec Ideal S1x256 .f32 := broadcastInDim S1x256 ![1] bcast_S256_S1x256_1 b

theorem biasRow_apply (b : Vec Ideal S256 .f32) (n : Fin 256) : biasRow b (ix2 0 n) = b (ix1 n) :=
  broadcastInDim_apply _ bcast_S256_S1x256_1 b (ix2 0 n) (ix1 n) fun a => match a with
    | ⟨0, _⟩ => by show n.val = if (256 : Nat) = 1 then 0 else n.val; rw [if_neg (by decide)]

theorem padded_apply (x1 : Vec Ideal S4x1024x3 .f32) (b : Fin 4) (r : Fin 1024) (k : Fin 8) :
    padded x1 (ix3 b r k) = if h : k.val < 3 then x1 (ix3 b r ⟨k.val, h⟩) else 0 := by
  split
  · rename_i h
    refine pad_apply_of_inside _ _ _ x1 _ pads_S4x1024x3_S4x1024x8_000_000_050 h_S_ (ix3 b r k) (ix3 b r ⟨k.val, h⟩) fun a => ?_
    match a with
    | ⟨0, _⟩ => show b.val = 0 + b.val * 1; omega
    | ⟨1, _⟩ => show r.val = 0 + r.val * 1; omega
    | ⟨2, _⟩ => show k.val = 0 + k.val * 1; omega
  · rename_i h
    refine (pad_apply_of_not_inside _ _ _ x1 _ pads_S4x1024x3_S4x1024x8_000_000_050 h_S_ (ix3 b r k) 2 fun hk => h ?_).trans ?_
    · have : (k.val - 0) / 1 < 3 := hk.2.2
      omega
    · show (((0#32 : BitVec 32).toInt : ℝ) : EReal) = 0
      simp

theorem lengths_apply (x1 : Vec Ideal S4x1024x3 .f32) (b : Fin 4) (r : Fin 1024) :
    lengths x1 (ix2 b r) = ∑ k : Fin 3, x1 (ix3 b r k) * x1 (ix3 b r k) := by
  have e : lengths x1 (ix2 b r) = ReferenceIdeal.Read.val_main_v5 (F := Ideal) x1 (ix2 b r) := rfl
  rw [e, ReferenceIdeal.Read.val_main_v5_apply]
  refine (congrArg₂ (· + ·) Ideal.ofBits_zero_f32 (Finset.sum_congr rfl fun k _ => ?_)).trans (zero_add _)
  have e : ReferenceIdeal.Read.idx_main_v5 (ix2 b r) k = ix3 b r k := by
    funext a; match a with | ⟨0, _⟩ => rfl | ⟨1, _⟩ => rfl | ⟨2, _⟩ => rfl
  rw [e]; rfl

/-- The first call's product with the bias row is the reference's first layer. -/
theorem affine_eq (x0 : Vec Ideal S4x1024x256 .f32) (x2 : Vec Ideal S256x256 .f32) (x3 : Vec Ideal S256 .f32) :
    affine x0 x2 (biasRow x3) = ReferenceIdeal.Read.val_main_v20 (F := Ideal) x0 x2 x3 := by
  funext (i : S4x1024x256.Idx)
  rw [ReferenceIdeal.Read.val_main_v20_apply, ReferenceIdeal.Read.val_main_v17_apply, ReferenceIdeal.Read.val_main_v19_apply,
    ReferenceIdeal.Read.val_main_v18_apply]
  refine congrArg₂ (fun a b : EReal => a + b) (Finset.sum_congr rfl fun k _ => congrArg₂ (fun a b : EReal => a * b) ?_ ?_) ?_
  · exact congrArg x0 (funext fun a => by match a with | ⟨0, _⟩ => rfl | ⟨1, _⟩ => rfl | ⟨2, _⟩ => rfl)
  · exact congrArg x2 (funext fun a => by match a with | ⟨0, _⟩ => rfl | ⟨1, _⟩ => rfl)
  · exact (biasRow_apply x3 (i 2)).trans (congrArg x3 (funext fun a => by match a with | ⟨0, _⟩ => rfl))

namespace Host0

variable (V : Valuation τ sig (Elt Ideal))

theorem c0_eq : StableHlo.after hostOps0_2 V (Proc.devRef .tc main_c_0) = constantI S_ 32 0#32 := by
  simp only [hostOps0_2]
  after_results_simp

theorem v1_eq {x1 : Vec Ideal S4x1024x3 .f32} (h1 : V (Proc.devRef .tc main_arg1) = x1)
    (hc : V (Proc.devRef .tc main_c_0) = constantI S_ 32 0#32) :
    StableHlo.after hostOps0_3 V (Proc.devRef .tc main_v1) = padded x1 := by
  simp only [hostOps0_3]
  after_results_simp
  rw [h1, hc]
  rfl

theorem v2_eq {x : Vec Ideal S4x1024x8 .f32} (h : V (Proc.devRef .tc main_v1) = x) :
    StableHlo.after hostOps0_4 V (Proc.devRef .tc main_v2) = transpose S4x8x1024 [0, 2, 1] x transposes_S4x1024x8_S4x8x1024_0_2_1 := by
  simp only [hostOps0_4]
  after_results_simp
  rw [h]

theorem v5_eq {x1 : Vec Ideal S4x1024x3 .f32} (h1 : V (Proc.devRef .tc main_arg1) = x1) :
    StableHlo.after hostOps0_4 V (Proc.devRef .tc main_v5)
      = broadcastInDim S4x1024x1 ![0, 1] bcast_S4x1024_S4x1024x1_0_1 (lengths x1) := by
  simp only [hostOps0_4]
  after_results_simp
  rw [h1]
  rfl

theorem v6_eq {x1 : Vec Ideal S4x1024x3 .f32} (h1 : V (Proc.devRef .tc main_arg1) = x1) :
    StableHlo.after hostOps0_4 V (Proc.devRef .tc main_v6)
      = transpose S4x1x1024 [0, 2, 1] (broadcastInDim S4x1024x1 ![0, 1] bcast_S4x1024_S4x1024x1_0_1 (lengths x1))
          transposes_S4x1024x1_S4x1x1024_0_2_1 := by
  simp only [hostOps0_4]
  after_results_simp
  rw [h1]
  rfl

theorem v7_eq {x3 : Vec Ideal S256 .f32} (h3 : V (Proc.devRef .tc main_arg3) = x3) :
    StableHlo.after hostOps0_4 V (Proc.devRef .tc main_v7) = biasRow x3 := by
  simp only [hostOps0_4]
  after_results_simp
  rw [h3]
  rfl

set_option maxRecDepth 8192 in
set_option maxHeartbeats 4000000 in
theorem v101_eq {x10 : Vec Ideal S256 .f32} (h10 : V (Proc.devRef .tc main_arg10) = x10) :
    StableHlo.after hostOps2_2 V (Proc.devRef .tc main_v101) = biasRow x10 := by
  simp only [hostOps2_2, pair_eq]
  after_results_simp
  rw [h10]
  rfl

end Host0

/-- The lengths as a column, read at a point. -/
theorem column_apply (v : Vec Ideal S4x1024 .f32) (b : Fin 4) (r : Fin 1024) :
    broadcastInDim S4x1024x1 ![0, 1] bcast_S4x1024_S4x1024x1_0_1 v (ix3 b r 0) = v (ix2 b r) :=
  broadcastInDim_apply _ bcast_S4x1024_S4x1024x1_0_1 v (ix3 b r 0) (ix2 b r) fun a => match a with
    | ⟨0, _⟩ => by show b.val = if (4 : Nat) = 1 then 0 else b.val; rw [if_neg (by decide)]
    | ⟨1, _⟩ => by show r.val = if (1024 : Nat) = 1 then 0 else r.val; rw [if_neg (by decide)]

end Cert.Proof

end
-- ==== Proof.Chain.lean ====
/- The contents of the kernel's buffers from call to call, for any launch memory: the first call's result, the neighbours'
   indices, the distances, and at the end the result, each as the reference has it. -/
module

public import proofs.«01_k».proof.Proof.Entry

@[expose] public section

noncomputable section

namespace Cert.Proof

open Cert.KernelIdeal Cert.KernelIdeal.Gen
open Idealize.ShloMosaic Idealize.ShloMosaic.TcCoe Idealize.SL.Sem Idealize.ShloMosaic.ValueIdx

/-- A number whose absolute value compares below infinity is real. -/
theorem IsReal.of_cmp {x : EReal} (h : Ideal.cmp .olt (max x (-x)) (Ideal.ofBits .f32 0x7F800000#32) = 1#1) : IsReal x := by
  rw [ofBits_inf] at h
  refine .of_abs ?_
  by_contra hn
  have h0 : Ideal.cmp .olt (max x (-x)) ⊤ = 0#1 := by
    simp only [Ideal.cmp, hn]; rfl
  rw [h0] at h
  exact absurd h (by decide)

variable (m : (ℓ : Loc nD τ sig) → Buf (Elt Ideal) ℓ) (ρ : Dev nD → PrngReg) (c : Dev nD)

/-- The arguments as launched. -/
abbrev arg0 : Vec Ideal S4x1024x256 .f32 := m ((c.tc : Thread nD τ).loc main_arg0)
abbrev arg1 : Vec Ideal S4x1024x3 .f32 := m ((c.tc : Thread nD τ).loc main_arg1)
abbrev arg2 : Vec Ideal S256x256 .f32 := m ((c.tc : Thread nD τ).loc main_arg2)
abbrev arg3 : Vec Ideal S256 .f32 := m ((c.tc : Thread nD τ).loc main_arg3)
abbrev arg4 : Vec Ideal S512x256 .f32 := m ((c.tc : Thread nD τ).loc main_arg4)
abbrev arg5 : Vec Ideal S256 .f32 := m ((c.tc : Thread nD τ).loc main_arg5)
abbrev arg6 : Vec Ideal S256 .f32 := m ((c.tc : Thread nD τ).loc main_arg6)
abbrev arg7 : Vec Ideal S256 .f32 := m ((c.tc : Thread nD τ).loc main_arg7)
abbrev arg8 : Vec Ideal S256x3 .f32 := m ((c.tc : Thread nD τ).loc main_arg8)
abbrev arg9 : Vec Ideal S512x256 .f32 := m ((c.tc : Thread nD τ).loc main_arg9)
abbrev arg10 : Vec Ideal S256 .f32 := m ((c.tc : Thread nD τ).loc main_arg10)

/-- At the first call the padded positions are in place. -/
theorem v1_at : W4 m ρ c (Proc.devRef .tc main_v1) = padded (arg1 m c) :=
  Host0.v1_eq _ (W3_args m ρ c main_arg1 (by decide)) (Host0.c0_eq _)

/-- What neither the first call nor the operation after it writes is unchanged at the second call. -/
theorem W7_W5 (r : Ref sig .tc) (h7 : r ∉ hostOps1_W) (h6 : ∀ w : Fin cfg0.W, Pipeline.arrRef spec0 w = r → (cfg0.win w).isOut = false) :
    W7 m ρ c (Proc.devRef .tc r) = W5 m ρ c (Proc.devRef .tc r) :=
  (W7_of m ρ c r h7).trans (W6_of m ρ c r h6)

theorem v1_at7 : W7 m ρ c (Proc.devRef .tc main_v1) = padded (arg1 m c) :=
  (W7_W5 m ρ c main_v1 (by decide) (by decide +kernel)).trans ((W5_of m ρ c main_v1 (by decide)).trans (v1_at m ρ c))

/-- What the second call is given. -/
theorem given : Given (V7 m ρ) c (arg1 m c) where
  pad b r k := (congrFun (v1_at7 m ρ c) (ix3 b r k)).trans (padded_apply _ b r k)
  turn b k j := by
    have h := (W7_W5 m ρ c main_v2 (by decide) (by decide +kernel)).trans (Host0.v2_eq (W4 m ρ c) (v1_at m ρ c))
    refine (congrFun h (ix3 b k j)).trans (Eq.trans ?_ (congrFun (v1_at7 m ρ c) (ix3 b j k)).symm)
    exact transpose_apply [0, 2, 1] (padded (arg1 m c)) transposes_S4x1024x8_S4x8x1024_0_2_1 (ix3 b k j) (ix3 b j k) fun a => by
      match a with | ⟨0, _⟩ => rfl | ⟨1, _⟩ => rfl | ⟨2, _⟩ => rfl
  col b r := by
    have h := (W7_W5 m ρ c main_v5 (by decide) (by decide +kernel)).trans
      (Host0.v5_eq (W4 m ρ c) (W4_args m ρ c main_arg1 (by decide)))
    exact (congrFun h (ix3 b r 0)).trans ((column_apply _ b r).trans (lengths_apply _ b r))
  lane b j := by
    have h := (W7_W5 m ρ c main_v6 (by decide) (by decide +kernel)).trans
      (Host0.v6_eq (W4 m ρ c) (W4_args m ρ c main_arg1 (by decide)))
    refine (congrFun h (ix3 b 0 j)).trans (Eq.trans ?_ ((column_apply _ b j).trans (lengths_apply _ b j)))
    exact transpose_apply [0, 2, 1] _ transposes_S4x1024x1_S4x1x1024_0_2_1 (ix3 b 0 j) (ix3 b j 0) fun a => by
      match a with | ⟨0, _⟩ => rfl | ⟨1, _⟩ => rfl | ⟨2, _⟩ => rfl

/-- The first call leaves the reference's first layer. -/
theorem v8_at : W8 m ρ c (Proc.devRef .tc main_v8) = ReferenceIdeal.Read.val_main_v20 (F := Ideal) (arg0 m c) (arg2 m c) (arg3 m c) := by
  refine (W8_of m ρ c main_v8 (by decide +kernel)).trans ((W7_of m ρ c main_v8 (by decide)).trans ((W6_arr m ρ c 3).trans ?_))
  refine (bias_array (V5 m ρ) c).trans (Eq.trans ?_ (affine_eq (arg0 m c) (arg2 m c) (arg3 m c)))
  have h0 : V5 m ρ c main_arg0 = arg0 m c := W5_args m ρ c main_arg0 (by decide)
  have h2 : V5 m ρ c main_arg2 = arg2 m c := W5_args m ρ c main_arg2 (by decide)
  have h7 : V5 m ρ c main_v7 = biasRow (arg3 m c) := Host0.v7_eq (W4 m ρ c) (W4_args m ρ c main_arg3 (by decide))
  rw [h0, h2, h7]

variable (h1 : ∀ i, IsReal (arg1 m c i))
include h1

/-- The second call leaves the reference's indices. -/
theorem idx_at : W8 m ρ c (Proc.devRef .tc main_v10_2) = ReferenceIdeal.Read.val_main_indices (F := Ideal) (arg1 m c) :=
  (W8_arr m ρ c 11).trans (index_array (V7 m ρ) c (given m ρ c) fun b r j => (real_v13 h1 b r j).lt_top)

/-- The distances before the third call. -/
theorem v100_at : W11 m ρ c (Proc.devRef .tc main_v100) = ReferenceIdeal.Read.val_main_v108 (F := Ideal) (arg0 m c) (arg1 m c) (arg2 m c)
    (arg3 m c) (arg4 m c) (arg5 m c) (arg6 m c) (arg7 m c) (arg8 m c) := by
  have a0 := W8_args m ρ c main_arg0 (by decide)
  have a4 := W8_args m ρ c main_arg4 (by decide)
  have a5 := W8_args m ρ c main_arg5 (by decide)
  have h8 := v8_at m ρ c
  have hi := idx_at m ρ c h1
  have h34 := Host1.v34_eq (W8 m ρ c) (arg0 m c) (arg1 m c) (arg2 m c) (arg3 m c) (arg4 m c) (arg5 m c) a0 a4 a5 h8 hi
  have h38 := Host1.v38_eq (W8 m ρ c) (arg0 m c) (arg1 m c) (arg2 m c) (arg3 m c) (arg4 m c) (arg5 m c) a0 a4 a5 h8 hi
  refine Host1.v100_eq (W10 m ρ c) (arg0 m c) (arg1 m c) (arg2 m c) (arg3 m c) (arg4 m c) (arg5 m c) (arg6 m c) (arg7 m c) (arg8 m c)
    (W10_args m ρ c main_arg1 (by decide)) (W10_args m ρ c main_arg6 (by decide)) (W10_args m ρ c main_arg7 (by decide))
    (W10_args m ρ c main_arg8 (by decide)) ?_ ?_ ?_ ?_ ?_
  · exact (W10_of m ρ c main_v10_2 (by decide)).trans ((W9_of m ρ c main_v10_2 (by decide)).trans hi)
  · exact (W10_of m ρ c main_v12 (by decide)).trans (Host1.v12_eq (W8 m ρ c))
  · exact (W10_of m ρ c main_v34 (by decide)).trans h34
  · exact (W10_of m ρ c main_v38 (by decide)).trans h38
  · exact Host1.v39_eq (W9 m ρ c) _ _ _ _ _ _ h34 (Host1.c7_eq (W8 m ρ c))

/-- The kernel's result array is the reference's result. -/
theorem result_at : W12 m ρ c (Proc.devRef .tc main_v102) = ReferenceIdeal.Read.val_main_v146 (F := Ideal) (arg0 m c) (arg1 m c) (arg2 m c)
    (arg3 m c) (arg4 m c) (arg5 m c) (arg6 m c) (arg7 m c) (arg8 m c) (arg9 m c) (arg10 m c) := by
  have hd := fun i => (real_v108 (arg0 m c) (arg2 m c) (arg3 m c) (arg4 m c) (arg5 m c) (arg6 m c) (arg7 m c) (arg8 m c) h1 i).lt_top
  refine (W12_arr m ρ c 5).trans ((tail_array (V11 m ρ) c (v100_at m ρ c h1) hd).trans (Eq.trans ?_
    (ref_answer (arg0 m c) (arg1 m c) (arg2 m c) (arg3 m c) (arg4 m c) (arg5 m c) (arg6 m c) (arg7 m c) (arg8 m c) (arg9 m c)
      (arg10 m c) fun b n j => hd (ix3 b n j)).symm))
  have h0 : V11 m ρ c main_arg0 = arg0 m c := W11_args m ρ c main_arg0 (by decide)
  have h9 : V11 m ρ c main_arg9 = arg9 m c := W11_args m ρ c main_arg9 (by decide)
  have hb : (fun n : Fin 256 => V11 m ρ c main_v101 (ix2 0 n : S1x256.Idx)) = fun n => arg10 m c (ix1 n) := funext fun n =>
    (congrFun (Host0.v101_eq (W10 m ρ c) (W10_args m ρ c main_arg10 (by decide))) (ix2 0 n)).trans (biasRow_apply _ n)
  rw [h0, h9, hb]

end Cert.Proof

end
-- ==== Proof.Ends.lean ====
/- The kernel's run with its whole final memory: every buffer that outlives the calls ends at what the last boundary of the
   program holds, so the result array is the reference's result and the arguments are as launched. -/
module

public import proofs.«01_k».proof.Proof.Chain
public import Idealize.ShloMosaic.Adequacy

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option maxRecDepth 16384 in
set_option backward.isDefEq.respectTransparency.types false in
/-- Every run of the kernel ends, and then each buffer that outlives the calls holds what the last boundary says. -/
theorem ends : θ_run defs (onTc (τ := τ) (main (F := Ideal))) ⟨m, fun _ => 0, ρ⟩ (fun r =>
    ∀ c : Dev nD, ∀ b ∈ Pipeline.ucRefs τ sig, r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Ends
public import Idealize.ShloMosaic.Adequacy
public import Idealize.ShloMosaic.Init

@[expose] public section

noncomputable section

namespace Cert.Proof

open Idealize.ShloMosaic Idealize.ShloMosaic.TcCoe Idealize.SL.Sem

/-- The precondition's one side condition. -/
theorem preFacts : Cert.Pre_finite_positions.Facts := ⟨by decide⟩

/-- Under the precondition every coordinate of every position is a real number. -/
theorem positions_real (m : (ℓ : Loc Cert.KernelIdeal.nD Cert.KernelIdeal.τ Cert.KernelIdeal.sig) → Buf (Elt Ideal) ℓ)
    (h : Cert.Pre_KernelIdeal_finite_positions (hPre_finite_positions := preFacts) m) (c : Dev Cert.KernelIdeal.nD) (i) :
    IsReal (arg1 m c i) := by
  exact .of_cmp (congrFun (h c) i)

/-- The kernel's run: its result is the reference's result at the kernel's own arguments, which end unchanged. -/
theorem kernel_run (m : (ℓ : Loc Cert.KernelIdeal.nD Cert.KernelIdeal.τ Cert.KernelIdeal.sig) → Buf (Elt Ideal) ℓ)
    (g : Dev Cert.KernelIdeal.nD → PrngReg) (h1 : ∀ c i, IsReal (arg1 m c i)) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v102)
            = ReferenceIdeal.Read.val_main_v146 (F := Ideal) (arg0 m c) (arg1 m c) (arg2 m c) (arg3 m c) (arg4 m c) (arg5 m c)
                (arg6 m c) (arg7 m c) (arg8 m c) (arg9 m c) (arg10 m c)
          ∧ ∀ a ∈ Cert.KernelIdeal.Gen.argRefs, r.2.mem ((c.tc : Thread Cert.KernelIdeal.nD Cert.KernelIdeal.τ).loc a)
              = m ((c.tc : Thread Cert.KernelIdeal.nD Cert.KernelIdeal.τ).loc a) :=
  (θ_run Cert.KernelIdeal.defs _ _).mono (fun _ h c =>
    ⟨(h c _ (Cert.KernelIdeal.Gen.mem_uc Cert.KernelIdeal.main_v102 (by decide))).trans (result_at m g c (h1 c)),
      fun a ha => (h c _ (Cert.KernelIdeal.Gen.mem_uc a (by revert a; decide))).trans (Cert.KernelIdeal.Gen.W12_args m g c a ha)⟩)
    (ends m g)

set_option maxHeartbeats 20000000 in
/-- The kernel and the reference, from the same arguments, end with the same result. -/
theorem algebraic : Cert.algebraic_KernelIdeal_ReferenceIdeal_pre_finite_positions (hKernelIdeal := Cert.KernelIdeal.Gen.facts)
    (hReferenceIdeal := Cert.ReferenceIdeal.Gen.facts) (hPre_finite_positions := preFacts) := by
  intro m g m' g' hpre hargs
  refine ⟨fun c => ReferenceIdeal.Read.val_main_v146 (F := Ideal) (arg0 m c) (arg1 m c) (arg2 m c) (arg3 m c) (arg4 m c) (arg5 m c)
    (arg6 m c) (arg7 m c) (arg8 m c) (arg9 m c) (arg10 m c), ?_, ?_⟩
  · refine (θ_run Cert.KernelIdeal.defs _ _).mono (fun r h c => ?_) (kernel_run m g fun c => positions_real m hpre c)
    have ha := (h c).2
    exact ⟨(h c).1, ha _ (by decide), ha _ (by decide), ha _ (by decide), ha _ (by decide), ha _ (by decide), ha _ (by decide),
      ha _ (by decide), ha _ (by decide), ha _ (by decide), ha _ (by decide), ha _ (by decide)⟩
  · refine (θ_run Cert.ReferenceIdeal.defs _ _).mono (fun r h c => ⟨(h c).1.trans ?_, (h c).2⟩)
      (Cert.ReferenceIdeal.Value.run (F := Ideal) m' g')
    refine (Cert.ReferenceIdeal.Read.val_main_v146_eq _).trans ?_
    obtain ⟨e0, e1, e2, e3, e4, e5, e6, e7, e8, e9, e10⟩ := hargs c
    show Cert.ReferenceIdeal.Read.val_main_v146 (F := Ideal) (m' (c.tc.loc Cert.ReferenceIdeal.main_arg0))
      (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4))
      (m' (c.tc.loc Cert.ReferenceIdeal.main_arg5)) (m' (c.tc.loc Cert.ReferenceIdeal.main_arg6))
      (m' (c.tc.loc Cert.ReferenceIdeal.main_arg7)) (m' (c.tc.loc Cert.ReferenceIdeal.main_arg8))
      (m' (c.tc.loc Cert.ReferenceIdeal.main_arg9)) (m' (c.tc.loc Cert.ReferenceIdeal.main_arg10)) = _
    rw [e0, e1, e2, e3, e4, e5, e6, e7, e8, e9, e10]

/-- The reference's run ends with its arguments unchanged and, declaring no semaphore, every counter at zero. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Every claim. -/
theorem claim : Cert.Claim := ⟨Cert.Kernel.Gen.facts, Cert.KernelIdeal.Gen.facts, Cert.ReferenceIdeal.Gen.facts, preFacts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
